-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1000000 : Shape := ⟨2, ![32, 1000000]⟩
abbrev S32000x1000 : Shape := ⟨2, ![32000, 1000]⟩
abbrev S_ : Shape := ⟨0, ![]⟩
abbrev S1 : Shape := ⟨1, ![1]⟩
abbrev S2 : Shape := ⟨1, ![2]⟩
abbrev S1x1 : Shape := ⟨2, ![1, 1]⟩
abbrev S32x1x128 : Shape := ⟨3, ![32, 1, 128]⟩
abbrev S1000x1000 : Shape := ⟨2, ![1000, 1000]⟩
abbrev S1x1x128 : Shape := ⟨3, ![1, 1, 128]⟩
abbrev S1x1000x1000 : Shape := ⟨3, ![1, 1000, 1000]⟩
abbrev S1x1x1 : Shape := ⟨3, ![1, 1, 1]⟩
abbrev S32x1x1 : Shape := ⟨3, ![32, 1, 1]⟩
abbrev S32 : Shape := ⟨1, ![32]⟩

abbrev nBuf : Space → Nat
  | .hbm => 285
  | .vmem => 8
  | .smem => 0
  | _ => 0

abbrev hbmTy0_0 (i : Nat) : BufTy := match i % 128 with
  | 0 => ⟨S32x1000000, .f32⟩
  | 1 => ⟨S32000x1000, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S32x1000000, .i64⟩
  | 23 => ⟨S32x1000000, .i64⟩
  | 24 => ⟨S_, .i64⟩
  | 25 => ⟨S32x1000000, .i64⟩
  | 26 => ⟨S32x1000000, .i64⟩
  | 27 => ⟨S_, .i64⟩
  | 28 => ⟨S32x1000000, .i64⟩
  | 29 => ⟨S32x1000000, .i64⟩
  | 30 => ⟨S32x1000000, .i64⟩
  | 31 => ⟨S_, .i64⟩
  | 32 => ⟨S32x1000000, .i64⟩
  | 33 => ⟨S32x1000000, .i64⟩
  | 34 => ⟨S32x1000000, .i32⟩
  | 35 => ⟨S32x1000000, .i32⟩
  | 36 => ⟨S_, .i32⟩
  | 37 => ⟨S_, .i32⟩
  | 38 => ⟨S_, .i32⟩
  | 39 => ⟨S32x1000000, .i32⟩
  | 40 => ⟨S32x1000000, .i32⟩
  | 41 => ⟨S32x1000000, .i32⟩
  | 42 => ⟨S32x1000000, .i32⟩
  | 43 => ⟨S32x1000000, .i32⟩
  | 44 => ⟨S_, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S32x1000000, .i32⟩
  | 51 => ⟨S32x1000000, .i32⟩
  | 52 => ⟨S32x1000000, .i32⟩
  | 53 => ⟨S_, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S32x1000000, .i32⟩
  | 60 => ⟨S32x1000000, .i32⟩
  | 61 => ⟨S32x1000000, .i32⟩
  | 62 => ⟨S_, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S32x1000000, .i32⟩
  | 69 => ⟨S32x1000000, .i32⟩
  | 70 => ⟨S32x1000000, .i32⟩
  | 71 => ⟨S_, .i32⟩
  | 72 => ⟨S32x1000000, .i32⟩
  | 73 => ⟨S32x1000000, .i32⟩
  | 74 => ⟨S_, .i32⟩
  | 75 => ⟨S32x1000000, .i32⟩
  | 76 => ⟨S32x1000000, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S32x1000000, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S32x1000000, .i32⟩
  | 103 => ⟨S32x1000000, .i32⟩
  | 104 => ⟨S32x1000000, .i32⟩
  | 105 => ⟨S_, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S32x1000000, .i32⟩
  | 112 => ⟨S32x1000000, .i32⟩
  | 113 => ⟨S32x1000000, .i32⟩
  | 114 => ⟨S_, .i32⟩
  | 115 => ⟨S32x1000000, .i32⟩
  | 116 => ⟨S32x1000000, .i32⟩
  | 117 => ⟨S_, .i32⟩
  | 118 => ⟨S32x1000000, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S32x1000000, .i32⟩
  | 126 => ⟨S_, .i32⟩
  | 127 => ⟨S32x1000000, .i32⟩
  | _ => ⟨S32x1000000, .f32⟩

abbrev hbmTy0_1 (i : Nat) : BufTy := match i % 128 with
  | 0 => ⟨S32x1000000, .i32⟩
  | 1 => ⟨S32x1000000, .i32⟩
  | 2 => ⟨S_, .i32⟩
  | 3 => ⟨S32x1000000, .i32⟩
  | 4 => ⟨S32x1000000, .i32⟩
  | 5 => ⟨S_, .i32⟩
  | 6 => ⟨S32x1000000, .i32⟩
  | 7 => ⟨S32x1000000, .i32⟩
  | 8 => ⟨S32x1000000, .i32⟩
  | 9 => ⟨S32x1000000, .i32⟩
  | 10 => ⟨S32x1000000, .i32⟩
  | 11 => ⟨S_, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S32x1000000, .i32⟩
  | 18 => ⟨S32x1000000, .i32⟩
  | 19 => ⟨S32x1000000, .i32⟩
  | 20 => ⟨S_, .i32⟩
  | 21 => ⟨S32x1000000, .i32⟩
  | 22 => ⟨S32x1000000, .i32⟩
  | 23 => ⟨S_, .i32⟩
  | 24 => ⟨S32x1000000, .i32⟩
  | 25 => ⟨S32x1000000, .i32⟩
  | 26 => ⟨S32x1000000, .i32⟩
  | 27 => ⟨S32x1000000, .i32⟩
  | 28 => ⟨S32x1000000, .i32⟩
  | 29 => ⟨S_, .i32⟩
  | 30 => ⟨S32x1000000, .i32⟩
  | 31 => ⟨S32x1000000, .i32⟩
  | 32 => ⟨S_, .i32⟩
  | 33 => ⟨S32x1000000, .i32⟩
  | 34 => ⟨S32x1000000, .i32⟩
  | 35 => ⟨S32x1000000, .i32⟩
  | 36 => ⟨S32x1000000, .i32⟩
  | 37 => ⟨S32x1000000, .i32⟩
  | 38 => ⟨S32x1000000, .i32⟩
  | 39 => ⟨S32x1000000, .i32⟩
  | 40 => ⟨S32x1000000, .i32⟩
  | 41 => ⟨S_, .i32⟩
  | 42 => ⟨S32x1000000, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S_, .i32⟩
  | 49 => ⟨S32x1000000, .i32⟩
  | 50 => ⟨S32x1000000, .i32⟩
  | 51 => ⟨S32x1000000, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S32x1000000, .i32⟩
  | 61 => ⟨S32x1000000, .i32⟩
  | 62 => ⟨S32x1000000, .i32⟩
  | 63 => ⟨S_, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S32x1000000, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S32x1000000, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S32x1000000, .i32⟩
  | 88 => ⟨S_, .i32⟩
  | 89 => ⟨S32x1000000, .i32⟩
  | 90 => ⟨S32x1000000, .i32⟩
  | 91 => ⟨S_, .i32⟩
  | 92 => ⟨S32x1000000, .i32⟩
  | 93 => ⟨S32x1000000, .i32⟩
  | 94 => ⟨S32x1000000, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S32x1000000, .i32⟩
  | 104 => ⟨S32x1000000, .i32⟩
  | 105 => ⟨S32x1000000, .i32⟩
  | 106 => ⟨S_, .i32⟩
  | 107 => ⟨S32x1000000, .i32⟩
  | 108 => ⟨S32x1000000, .i32⟩
  | 109 => ⟨S_, .i32⟩
  | 110 => ⟨S32x1000000, .i32⟩
  | 111 => ⟨S32x1000000, .i32⟩
  | 112 => ⟨S32x1000000, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S32x1000000, .i32⟩
  | 122 => ⟨S32x1000000, .i32⟩
  | 123 => ⟨S32x1000000, .i32⟩
  | 124 => ⟨S32x1000000, .i32⟩
  | 125 => ⟨S32x1000000, .i32⟩
  | 126 => ⟨S32x1000000, .i32⟩
  | 127 => ⟨S_, .i32⟩
  | _ => ⟨S32x1000000, .f32⟩

abbrev hbmTy0_2 (i : Nat) : BufTy := match i % 128 with
  | 0 => ⟨S32x1000000, .i32⟩
  | 1 => ⟨S32x1000000, .i32⟩
  | 2 => ⟨S32x1000000, .i32⟩
  | 3 => ⟨S_, .i32⟩
  | 4 => ⟨S32x1000000, .i32⟩
  | 5 => ⟨S32x1000000, .i32⟩
  | 6 => ⟨S_, .i32⟩
  | 7 => ⟨S32x1000000, .i32⟩
  | 8 => ⟨S32x1000000, .i32⟩
  | 9 => ⟨S32x1000000, .f32⟩
  | 10 => ⟨S_, .f32⟩
  | 11 => ⟨S32x1000000, .f32⟩
  | 12 => ⟨S32x1000000, .f32⟩
  | 13 => ⟨S1x1, .f32⟩
  | 14 => ⟨S32x1000000, .f32⟩
  | 15 => ⟨S32x1000000, .f32⟩
  | 16 => ⟨S32x1000000, .f32⟩
  | 17 => ⟨S32x1000000, .f32⟩
  | 18 => ⟨S32x1000000, .f32⟩
  | 19 => ⟨S32x1000000, .f32⟩
  | 20 => ⟨S32x1000000, .f32⟩
  | 21 => ⟨S32x1000000, .f32⟩
  | 22 => ⟨S32x1000000, .f32⟩
  | 23 => ⟨S32000x1000, .f32⟩
  | 24 => ⟨S32000x1000, .f32⟩
  | 25 => ⟨S32x1x128, .i32⟩
  | 26 => ⟨S32x1000000, .f32⟩
  | 27 => ⟨S32x1x1, .i32⟩
  | 28 => ⟨S32, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | .local _ .vmem, ⟨0, _⟩ => ⟨S1000x1000, .f32⟩
  | .local _ .vmem, ⟨1, _⟩ => ⟨S1000x1000, .f32⟩
  | .local _ .vmem, ⟨2, _⟩ => ⟨S1000x1000, .f32⟩
  | .local _ .vmem, ⟨3, _⟩ => ⟨S1000x1000, .f32⟩
  | .local _ .vmem, ⟨4, _⟩ => ⟨S1000x1000, .f32⟩
  | .local _ .vmem, ⟨5, _⟩ => ⟨S1000x1000, .f32⟩
  | .local _ .vmem, ⟨6, _⟩ => ⟨S1x1x128, .i32⟩
  | .local _ .vmem, ⟨7, _⟩ => ⟨S1x1x128, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_c : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_c_0 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_c_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_call0_v0 : Ref sig .tc := ⟨.hbm, 36, rfl⟩
abbrev main_call0_call0_call0_c : Ref sig .tc := ⟨.hbm, 37, rfl⟩
abbrev main_call0_call0_call0_v1 : Ref sig .tc := ⟨.hbm, 38, rfl⟩
abbrev main_call0_call0_call0_v2 : Ref sig .tc := ⟨.hbm, 39, rfl⟩
abbrev main_call0_call0_call0_v3 : Ref sig .tc := ⟨.hbm, 40, rfl⟩
abbrev main_call0_call0_call0_v4 : Ref sig .tc := ⟨.hbm, 41, rfl⟩
abbrev main_call0_call0_call0_v5 : Ref sig .tc := ⟨.hbm, 42, rfl⟩
abbrev main_call0_call0_call0_v6 : Ref sig .tc := ⟨.hbm, 43, rfl⟩
abbrev main_call0_call0_call0_c_0 : Ref sig .tc := ⟨.hbm, 44, rfl⟩
abbrev main_call0_call0_call0_v7 : Ref sig .tc := ⟨.hbm, 45, rfl⟩
abbrev main_call0_call0_call0_v8 : Ref sig .tc := ⟨.hbm, 46, rfl⟩
abbrev main_call0_call0_call0_c_1 : Ref sig .tc := ⟨.hbm, 47, rfl⟩
abbrev main_call0_call0_call0_v9 : Ref sig .tc := ⟨.hbm, 48, rfl⟩
abbrev main_call0_call0_call0_v10 : Ref sig .tc := ⟨.hbm, 49, rfl⟩
abbrev main_call0_call0_call0_v11 : Ref sig .tc := ⟨.hbm, 50, rfl⟩
abbrev main_call0_call0_call0_v12 : Ref sig .tc := ⟨.hbm, 51, rfl⟩
abbrev main_call0_call0_call0_v13 : Ref sig .tc := ⟨.hbm, 52, rfl⟩
abbrev main_call0_call0_call0_c_2 : Ref sig .tc := ⟨.hbm, 53, rfl⟩
abbrev main_call0_call0_call0_v14 : Ref sig .tc := ⟨.hbm, 54, rfl⟩
abbrev main_call0_call0_call0_v15 : Ref sig .tc := ⟨.hbm, 55, rfl⟩
abbrev main_call0_call0_call0_c_3 : Ref sig .tc := ⟨.hbm, 56, rfl⟩
abbrev main_call0_call0_call0_v16 : Ref sig .tc := ⟨.hbm, 57, rfl⟩
abbrev main_call0_call0_call0_v17 : Ref sig .tc := ⟨.hbm, 58, rfl⟩
abbrev main_call0_call0_call0_v18 : Ref sig .tc := ⟨.hbm, 59, rfl⟩
abbrev main_call0_call0_call0_v19 : Ref sig .tc := ⟨.hbm, 60, rfl⟩
abbrev main_call0_call0_call0_v20 : Ref sig .tc := ⟨.hbm, 61, rfl⟩
abbrev main_call0_call0_call0_c_4 : Ref sig .tc := ⟨.hbm, 62, rfl⟩
abbrev main_call0_call0_call0_v21 : Ref sig .tc := ⟨.hbm, 63, rfl⟩
abbrev main_call0_call0_call0_v22 : Ref sig .tc := ⟨.hbm, 64, rfl⟩
abbrev main_call0_call0_call0_c_5 : Ref sig .tc := ⟨.hbm, 65, rfl⟩
abbrev main_call0_call0_call0_v23 : Ref sig .tc := ⟨.hbm, 66, rfl⟩
abbrev main_call0_call0_call0_v24 : Ref sig .tc := ⟨.hbm, 67, rfl⟩
abbrev main_call0_call0_call0_v25 : Ref sig .tc := ⟨.hbm, 68, rfl⟩
abbrev main_call0_call0_call0_v26 : Ref sig .tc := ⟨.hbm, 69, rfl⟩
abbrev main_call0_call0_call0_v27 : Ref sig .tc := ⟨.hbm, 70, rfl⟩
abbrev main_call0_call0_call0_c_6 : Ref sig .tc := ⟨.hbm, 71, rfl⟩
abbrev main_call0_call0_call0_v28 : Ref sig .tc := ⟨.hbm, 72, rfl⟩
abbrev main_call0_call0_call0_v29 : Ref sig .tc := ⟨.hbm, 73, rfl⟩
abbrev main_call0_call0_call0_c_7 : Ref sig .tc := ⟨.hbm, 74, rfl⟩
abbrev main_call0_call0_call0_v30 : Ref sig .tc := ⟨.hbm, 75, rfl⟩
abbrev main_call0_call0_call0_v31 : Ref sig .tc := ⟨.hbm, 76, rfl⟩
abbrev main_call0_call0_call0_v32 : Ref sig .tc := ⟨.hbm, 77, rfl⟩
abbrev main_call0_call0_call0_v33 : Ref sig .tc := ⟨.hbm, 78, rfl⟩
abbrev main_call0_call0_call0_v34 : Ref sig .tc := ⟨.hbm, 79, rfl⟩
abbrev main_call0_call0_call0_v35 : Ref sig .tc := ⟨.hbm, 80, rfl⟩
abbrev main_call0_call0_call0_v36 : Ref sig .tc := ⟨.hbm, 81, rfl⟩
abbrev main_call0_call0_call0_v37 : Ref sig .tc := ⟨.hbm, 82, rfl⟩
abbrev main_call0_call0_call0_c_8 : Ref sig .tc := ⟨.hbm, 83, rfl⟩
abbrev main_call0_call0_call0_v38 : Ref sig .tc := ⟨.hbm, 84, rfl⟩
abbrev main_call0_call0_call0_v39 : Ref sig .tc := ⟨.hbm, 85, rfl⟩
abbrev main_call0_call0_call0_v40 : Ref sig .tc := ⟨.hbm, 86, rfl⟩
abbrev main_call0_call0_call0_c_9 : Ref sig .tc := ⟨.hbm, 87, rfl⟩
abbrev main_call0_call0_call0_v41 : Ref sig .tc := ⟨.hbm, 88, rfl⟩
abbrev main_call0_call0_call0_v42 : Ref sig .tc := ⟨.hbm, 89, rfl⟩
abbrev main_call0_call0_call0_c_10 : Ref sig .tc := ⟨.hbm, 90, rfl⟩
abbrev main_call0_call0_call0_v43 : Ref sig .tc := ⟨.hbm, 91, rfl⟩
abbrev main_call0_call0_call0_v44 : Ref sig .tc := ⟨.hbm, 92, rfl⟩
abbrev main_call0_call0_call0_v45 : Ref sig .tc := ⟨.hbm, 93, rfl⟩
abbrev main_call0_call0_call0_v46 : Ref sig .tc := ⟨.hbm, 94, rfl⟩
abbrev main_call0_call0_call0_v47 : Ref sig .tc := ⟨.hbm, 95, rfl⟩
abbrev main_call0_call0_call0_c_11 : Ref sig .tc := ⟨.hbm, 96, rfl⟩
abbrev main_call0_call0_call0_v48 : Ref sig .tc := ⟨.hbm, 97, rfl⟩
abbrev main_call0_call0_call0_v49 : Ref sig .tc := ⟨.hbm, 98, rfl⟩
abbrev main_call0_call0_call0_c_12 : Ref sig .tc := ⟨.hbm, 99, rfl⟩
abbrev main_call0_call0_call0_v50 : Ref sig .tc := ⟨.hbm, 100, rfl⟩
abbrev main_call0_call0_call0_v51 : Ref sig .tc := ⟨.hbm, 101, rfl⟩
abbrev main_call0_call0_call0_v52 : Ref sig .tc := ⟨.hbm, 102, rfl⟩
abbrev main_call0_call0_call0_v53 : Ref sig .tc := ⟨.hbm, 103, rfl⟩
abbrev main_call0_call0_call0_v54 : Ref sig .tc := ⟨.hbm, 104, rfl⟩
abbrev main_call0_call0_call0_c_13 : Ref sig .tc := ⟨.hbm, 105, rfl⟩
abbrev main_call0_call0_call0_v55 : Ref sig .tc := ⟨.hbm, 106, rfl⟩
abbrev main_call0_call0_call0_v56 : Ref sig .tc := ⟨.hbm, 107, rfl⟩
abbrev main_call0_call0_call0_c_14 : Ref sig .tc := ⟨.hbm, 108, rfl⟩
abbrev main_call0_call0_call0_v57 : Ref sig .tc := ⟨.hbm, 109, rfl⟩
abbrev main_call0_call0_call0_v58 : Ref sig .tc := ⟨.hbm, 110, rfl⟩
abbrev main_call0_call0_call0_v59 : Ref sig .tc := ⟨.hbm, 111, rfl⟩
abbrev main_call0_call0_call0_v60 : Ref sig .tc := ⟨.hbm, 112, rfl⟩
abbrev main_call0_call0_call0_v61 : Ref sig .tc := ⟨.hbm, 113, rfl⟩
abbrev main_call0_call0_call0_c_15 : Ref sig .tc := ⟨.hbm, 114, rfl⟩
abbrev main_call0_call0_call0_v62 : Ref sig .tc := ⟨.hbm, 115, rfl⟩
abbrev main_call0_call0_call0_v63 : Ref sig .tc := ⟨.hbm, 116, rfl⟩
abbrev main_call0_call0_call0_c_16 : Ref sig .tc := ⟨.hbm, 117, rfl⟩
abbrev main_call0_call0_call0_v64 : Ref sig .tc := ⟨.hbm, 118, rfl⟩
abbrev main_call0_call0_call0_v65 : Ref sig .tc := ⟨.hbm, 119, rfl⟩
abbrev main_call0_call0_call0_v66 : Ref sig .tc := ⟨.hbm, 120, rfl⟩
abbrev main_call0_call0_call0_v67 : Ref sig .tc := ⟨.hbm, 121, rfl⟩
abbrev main_call0_call0_call0_v68 : Ref sig .tc := ⟨.hbm, 122, rfl⟩
abbrev main_call0_call0_call0_v69 : Ref sig .tc := ⟨.hbm, 123, rfl⟩
abbrev main_call0_call0_call0_v70 : Ref sig .tc := ⟨.hbm, 124, rfl⟩
abbrev main_call0_call0_call0_v71 : Ref sig .tc := ⟨.hbm, 125, rfl⟩
abbrev main_call0_call0_call0_c_17 : Ref sig .tc := ⟨.hbm, 126, rfl⟩
abbrev main_call0_call0_call0_v72 : Ref sig .tc := ⟨.hbm, 127, rfl⟩
abbrev main_call0_call0_call0_v73 : Ref sig .tc := ⟨.hbm, 128, rfl⟩
abbrev main_call0_call0_call0_v74 : Ref sig .tc := ⟨.hbm, 129, rfl⟩
abbrev main_call0_call0_call0_c_18 : Ref sig .tc := ⟨.hbm, 130, rfl⟩
abbrev main_call0_call0_call0_v75 : Ref sig .tc := ⟨.hbm, 131, rfl⟩
abbrev main_call0_call0_call0_v76 : Ref sig .tc := ⟨.hbm, 132, rfl⟩
abbrev main_call0_call0_call0_c_19 : Ref sig .tc := ⟨.hbm, 133, rfl⟩
abbrev main_call0_call0_call0_v77 : Ref sig .tc := ⟨.hbm, 134, rfl⟩
abbrev main_call0_call0_call0_v78 : Ref sig .tc := ⟨.hbm, 135, rfl⟩
abbrev main_call0_call0_call0_v79 : Ref sig .tc := ⟨.hbm, 136, rfl⟩
abbrev main_call0_call0_call0_v80 : Ref sig .tc := ⟨.hbm, 137, rfl⟩
abbrev main_call0_call0_call0_v81 : Ref sig .tc := ⟨.hbm, 138, rfl⟩
abbrev main_call0_call0_call0_c_20 : Ref sig .tc := ⟨.hbm, 139, rfl⟩
abbrev main_call0_call0_call0_v82 : Ref sig .tc := ⟨.hbm, 140, rfl⟩
abbrev main_call0_call0_call0_v83 : Ref sig .tc := ⟨.hbm, 141, rfl⟩
abbrev main_call0_call0_call0_c_21 : Ref sig .tc := ⟨.hbm, 142, rfl⟩
abbrev main_call0_call0_call0_v84 : Ref sig .tc := ⟨.hbm, 143, rfl⟩
abbrev main_call0_call0_call0_v85 : Ref sig .tc := ⟨.hbm, 144, rfl⟩
abbrev main_call0_call0_call0_v86 : Ref sig .tc := ⟨.hbm, 145, rfl⟩
abbrev main_call0_call0_call0_v87 : Ref sig .tc := ⟨.hbm, 146, rfl⟩
abbrev main_call0_call0_call0_v88 : Ref sig .tc := ⟨.hbm, 147, rfl⟩
abbrev main_call0_call0_call0_c_22 : Ref sig .tc := ⟨.hbm, 148, rfl⟩
abbrev main_call0_call0_call0_v89 : Ref sig .tc := ⟨.hbm, 149, rfl⟩
abbrev main_call0_call0_call0_v90 : Ref sig .tc := ⟨.hbm, 150, rfl⟩
abbrev main_call0_call0_call0_c_23 : Ref sig .tc := ⟨.hbm, 151, rfl⟩
abbrev main_call0_call0_call0_v91 : Ref sig .tc := ⟨.hbm, 152, rfl⟩
abbrev main_call0_call0_call0_v92 : Ref sig .tc := ⟨.hbm, 153, rfl⟩
abbrev main_call0_call0_call0_v93 : Ref sig .tc := ⟨.hbm, 154, rfl⟩
abbrev main_call0_call0_call0_v94 : Ref sig .tc := ⟨.hbm, 155, rfl⟩
abbrev main_call0_call0_call0_v95 : Ref sig .tc := ⟨.hbm, 156, rfl⟩
abbrev main_call0_call0_call0_c_24 : Ref sig .tc := ⟨.hbm, 157, rfl⟩
abbrev main_call0_call0_call0_v96 : Ref sig .tc := ⟨.hbm, 158, rfl⟩
abbrev main_call0_call0_call0_v97 : Ref sig .tc := ⟨.hbm, 159, rfl⟩
abbrev main_call0_call0_call0_c_25 : Ref sig .tc := ⟨.hbm, 160, rfl⟩
abbrev main_call0_call0_call0_v98 : Ref sig .tc := ⟨.hbm, 161, rfl⟩
abbrev main_call0_call0_call0_v99 : Ref sig .tc := ⟨.hbm, 162, rfl⟩
abbrev main_call0_call0_call0_v100 : Ref sig .tc := ⟨.hbm, 163, rfl⟩
abbrev main_call0_call0_call0_v101 : Ref sig .tc := ⟨.hbm, 164, rfl⟩
abbrev main_call0_call0_call0_v102 : Ref sig .tc := ⟨.hbm, 165, rfl⟩
abbrev main_call0_call0_call0_v103 : Ref sig .tc := ⟨.hbm, 166, rfl⟩
abbrev main_call0_call0_call0_v104 : Ref sig .tc := ⟨.hbm, 167, rfl⟩
abbrev main_call0_call0_call0_v105 : Ref sig .tc := ⟨.hbm, 168, rfl⟩
abbrev main_call0_call0_call0_c_26 : Ref sig .tc := ⟨.hbm, 169, rfl⟩
abbrev main_call0_call0_call0_v106 : Ref sig .tc := ⟨.hbm, 170, rfl⟩
abbrev main_call0_call0_call0_v107 : Ref sig .tc := ⟨.hbm, 171, rfl⟩
abbrev main_call0_call0_call0_v108 : Ref sig .tc := ⟨.hbm, 172, rfl⟩
abbrev main_call0_call0_call0_c_27 : Ref sig .tc := ⟨.hbm, 173, rfl⟩
abbrev main_call0_call0_call0_v109 : Ref sig .tc := ⟨.hbm, 174, rfl⟩
abbrev main_call0_call0_call0_v110 : Ref sig .tc := ⟨.hbm, 175, rfl⟩
abbrev main_call0_call0_call0_c_28 : Ref sig .tc := ⟨.hbm, 176, rfl⟩
abbrev main_call0_call0_call0_v111 : Ref sig .tc := ⟨.hbm, 177, rfl⟩
abbrev main_call0_call0_call0_v112 : Ref sig .tc := ⟨.hbm, 178, rfl⟩
abbrev main_call0_call0_call0_v113 : Ref sig .tc := ⟨.hbm, 179, rfl⟩
abbrev main_call0_call0_call0_v114 : Ref sig .tc := ⟨.hbm, 180, rfl⟩
abbrev main_call0_call0_call0_v115 : Ref sig .tc := ⟨.hbm, 181, rfl⟩
abbrev main_call0_call0_call0_c_29 : Ref sig .tc := ⟨.hbm, 182, rfl⟩
abbrev main_call0_call0_call0_v116 : Ref sig .tc := ⟨.hbm, 183, rfl⟩
abbrev main_call0_call0_call0_v117 : Ref sig .tc := ⟨.hbm, 184, rfl⟩
abbrev main_call0_call0_call0_c_30 : Ref sig .tc := ⟨.hbm, 185, rfl⟩
abbrev main_call0_call0_call0_v118 : Ref sig .tc := ⟨.hbm, 186, rfl⟩
abbrev main_call0_call0_call0_v119 : Ref sig .tc := ⟨.hbm, 187, rfl⟩
abbrev main_call0_call0_call0_v120 : Ref sig .tc := ⟨.hbm, 188, rfl⟩
abbrev main_call0_call0_call0_v121 : Ref sig .tc := ⟨.hbm, 189, rfl⟩
abbrev main_call0_call0_call0_v122 : Ref sig .tc := ⟨.hbm, 190, rfl⟩
abbrev main_call0_call0_call0_c_31 : Ref sig .tc := ⟨.hbm, 191, rfl⟩
abbrev main_call0_call0_call0_v123 : Ref sig .tc := ⟨.hbm, 192, rfl⟩
abbrev main_call0_call0_call0_v124 : Ref sig .tc := ⟨.hbm, 193, rfl⟩
abbrev main_call0_call0_call0_c_32 : Ref sig .tc := ⟨.hbm, 194, rfl⟩
abbrev main_call0_call0_call0_v125 : Ref sig .tc := ⟨.hbm, 195, rfl⟩
abbrev main_call0_call0_call0_v126 : Ref sig .tc := ⟨.hbm, 196, rfl⟩
abbrev main_call0_call0_call0_v127 : Ref sig .tc := ⟨.hbm, 197, rfl⟩
abbrev main_call0_call0_call0_v128 : Ref sig .tc := ⟨.hbm, 198, rfl⟩
abbrev main_call0_call0_call0_v129 : Ref sig .tc := ⟨.hbm, 199, rfl⟩
abbrev main_call0_call0_call0_c_33 : Ref sig .tc := ⟨.hbm, 200, rfl⟩
abbrev main_call0_call0_call0_v130 : Ref sig .tc := ⟨.hbm, 201, rfl⟩
abbrev main_call0_call0_call0_v131 : Ref sig .tc := ⟨.hbm, 202, rfl⟩
abbrev main_call0_call0_call0_c_34 : Ref sig .tc := ⟨.hbm, 203, rfl⟩
abbrev main_call0_call0_call0_v132 : Ref sig .tc := ⟨.hbm, 204, rfl⟩
abbrev main_call0_call0_call0_v133 : Ref sig .tc := ⟨.hbm, 205, rfl⟩
abbrev main_call0_call0_call0_v134 : Ref sig .tc := ⟨.hbm, 206, rfl⟩
abbrev main_call0_call0_call0_v135 : Ref sig .tc := ⟨.hbm, 207, rfl⟩
abbrev main_call0_call0_call0_v136 : Ref sig .tc := ⟨.hbm, 208, rfl⟩
abbrev main_call0_call0_call0_v137 : Ref sig .tc := ⟨.hbm, 209, rfl⟩
abbrev main_call0_call0_call0_v138 : Ref sig .tc := ⟨.hbm, 210, rfl⟩
abbrev main_call0_call0_call0_v139 : Ref sig .tc := ⟨.hbm, 211, rfl⟩
abbrev main_call0_call0_call0_c_35 : Ref sig .tc := ⟨.hbm, 212, rfl⟩
abbrev main_call0_call0_call0_v140 : Ref sig .tc := ⟨.hbm, 213, rfl⟩
abbrev main_call0_call0_call0_v141 : Ref sig .tc := ⟨.hbm, 214, rfl⟩
abbrev main_call0_call0_call0_v142 : Ref sig .tc := ⟨.hbm, 215, rfl⟩
abbrev main_call0_call0_call0_c_36 : Ref sig .tc := ⟨.hbm, 216, rfl⟩
abbrev main_call0_call0_call0_v143 : Ref sig .tc := ⟨.hbm, 217, rfl⟩
abbrev main_call0_call0_call0_v144 : Ref sig .tc := ⟨.hbm, 218, rfl⟩
abbrev main_call0_call0_call0_c_37 : Ref sig .tc := ⟨.hbm, 219, rfl⟩
abbrev main_call0_call0_call0_v145 : Ref sig .tc := ⟨.hbm, 220, rfl⟩
abbrev main_call0_call0_call0_v146 : Ref sig .tc := ⟨.hbm, 221, rfl⟩
abbrev main_call0_call0_call0_v147 : Ref sig .tc := ⟨.hbm, 222, rfl⟩
abbrev main_call0_call0_call0_v148 : Ref sig .tc := ⟨.hbm, 223, rfl⟩
abbrev main_call0_call0_call0_v149 : Ref sig .tc := ⟨.hbm, 224, rfl⟩
abbrev main_call0_call0_call0_c_38 : Ref sig .tc := ⟨.hbm, 225, rfl⟩
abbrev main_call0_call0_call0_v150 : Ref sig .tc := ⟨.hbm, 226, rfl⟩
abbrev main_call0_call0_call0_v151 : Ref sig .tc := ⟨.hbm, 227, rfl⟩
abbrev main_call0_call0_call0_c_39 : Ref sig .tc := ⟨.hbm, 228, rfl⟩
abbrev main_call0_call0_call0_v152 : Ref sig .tc := ⟨.hbm, 229, rfl⟩
abbrev main_call0_call0_call0_v153 : Ref sig .tc := ⟨.hbm, 230, rfl⟩
abbrev main_call0_call0_call0_v154 : Ref sig .tc := ⟨.hbm, 231, rfl⟩
abbrev main_call0_call0_call0_v155 : Ref sig .tc := ⟨.hbm, 232, rfl⟩
abbrev main_call0_call0_call0_v156 : Ref sig .tc := ⟨.hbm, 233, rfl⟩
abbrev main_call0_call0_call0_c_40 : Ref sig .tc := ⟨.hbm, 234, rfl⟩
abbrev main_call0_call0_call0_v157 : Ref sig .tc := ⟨.hbm, 235, rfl⟩
abbrev main_call0_call0_call0_v158 : Ref sig .tc := ⟨.hbm, 236, rfl⟩
abbrev main_call0_call0_call0_c_41 : Ref sig .tc := ⟨.hbm, 237, rfl⟩
abbrev main_call0_call0_call0_v159 : Ref sig .tc := ⟨.hbm, 238, rfl⟩
abbrev main_call0_call0_call0_v160 : Ref sig .tc := ⟨.hbm, 239, rfl⟩
abbrev main_call0_call0_call0_v161 : Ref sig .tc := ⟨.hbm, 240, rfl⟩
abbrev main_call0_call0_call0_v162 : Ref sig .tc := ⟨.hbm, 241, rfl⟩
abbrev main_call0_call0_call0_v163 : Ref sig .tc := ⟨.hbm, 242, rfl⟩
abbrev main_call0_call0_call0_c_42 : Ref sig .tc := ⟨.hbm, 243, rfl⟩
abbrev main_call0_call0_call0_v164 : Ref sig .tc := ⟨.hbm, 244, rfl⟩
abbrev main_call0_call0_call0_v165 : Ref sig .tc := ⟨.hbm, 245, rfl⟩
abbrev main_call0_call0_call0_c_43 : Ref sig .tc := ⟨.hbm, 246, rfl⟩
abbrev main_call0_call0_call0_v166 : Ref sig .tc := ⟨.hbm, 247, rfl⟩
abbrev main_call0_call0_call0_v167 : Ref sig .tc := ⟨.hbm, 248, rfl⟩
abbrev main_call0_call0_call0_v168 : Ref sig .tc := ⟨.hbm, 249, rfl⟩
abbrev main_call0_call0_call0_v169 : Ref sig .tc := ⟨.hbm, 250, rfl⟩
abbrev main_call0_call0_call0_v170 : Ref sig .tc := ⟨.hbm, 251, rfl⟩
abbrev main_call0_call0_v19_0 : Ref sig .tc := ⟨.hbm, 252, rfl⟩
abbrev main_call0_call0_call0_v172 : Ref sig .tc := ⟨.hbm, 253, rfl⟩
abbrev main_call0_call0_call0_v173 : Ref sig .tc := ⟨.hbm, 254, rfl⟩
abbrev main_call0_call0_call0_c_44 : Ref sig .tc := ⟨.hbm, 255, rfl⟩
abbrev main_call0_call0_call0_v174 : Ref sig .tc := ⟨.hbm, 256, rfl⟩
abbrev main_call0_call0_v19_1 : Ref sig .tc := ⟨.hbm, 257, rfl⟩
abbrev main_call0_call0_v20 : Ref sig .tc := ⟨.hbm, 258, rfl⟩
abbrev main_call0_call0_c_2 : Ref sig .tc := ⟨.hbm, 259, rfl⟩
abbrev main_call0_call0_v21 : Ref sig .tc := ⟨.hbm, 260, rfl⟩
abbrev main_call0_call0_v22 : Ref sig .tc := ⟨.hbm, 261, rfl⟩
abbrev main_call0_call0_c_3 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_v25 : Ref sig .tc := ⟨.hbm, 265, rfl⟩
abbrev main_call0_call0_cst : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_call0_v33 : Ref sig .tc := ⟨.hbm, 274, rfl⟩
abbrev main_call0_v0 : Ref sig .tc := ⟨.hbm, 275, rfl⟩
abbrev main_call0_v1 : Ref sig .tc := ⟨.hbm, 276, rfl⟩
abbrev main_call0_v2 : Ref sig .tc := ⟨.hbm, 277, rfl⟩
abbrev main_v8 : Ref sig .tc := ⟨.hbm, 278, rfl⟩
abbrev main_v9 : Ref sig .tc := ⟨.hbm, 279, rfl⟩
abbrev main_v10_0 : Ref sig .tc := ⟨.hbm, 280, rfl⟩
abbrev main_v10_1 : Ref sig .tc := ⟨.hbm, 281, rfl⟩
abbrev main_v11 : Ref sig .tc := ⟨.hbm, 282, rfl⟩
abbrev main_v12 : Ref sig .tc := ⟨.hbm, 283, rfl⟩
abbrev main_v13 : Ref sig .tc := ⟨.hbm, 284, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩
abbrev S1x1 : Shape := ⟨2, ![1, 1]⟩

abbrev nBuf : Space → Nat
  | .hbm => 298
  | .vmem => 0
  | .smem => 0
  | _ => 0

abbrev hbmTy0_0 (i : Nat) : BufTy := match i % 128 with
  | 0 => ⟨S32x1000000, .f32⟩
  | 1 => ⟨S_, .f32⟩
  | 2 => ⟨S32, .f32⟩
  | 3 => ⟨S_, .f32⟩
  | 4 => ⟨S32, .f32⟩
  | 5 => ⟨S32, .f32⟩
  | 6 => ⟨S32x1, .f32⟩
  | 7 => ⟨S32x1000000, .f32⟩
  | 8 => ⟨S32x1000000, .f32⟩
  | 9 => ⟨S32x1000000, .f32⟩
  | 10 => ⟨S_, .f32⟩
  | 11 => ⟨S32, .f32⟩
  | 12 => ⟨S32x1, .f32⟩
  | 13 => ⟨S32x1000000, .f32⟩
  | 14 => ⟨S32x1000000, .f32⟩
  | 15 => ⟨S_, .i32⟩
  | 16 => ⟨S_, .i32⟩
  | 17 => ⟨S_, .i32⟩
  | 18 => ⟨S_, .i32⟩
  | 19 => ⟨S1, .i32⟩
  | 20 => ⟨S_, .i32⟩
  | 21 => ⟨S_, .i32⟩
  | 22 => ⟨S_, .i32⟩
  | 23 => ⟨S1, .i32⟩
  | 24 => ⟨S2, .i32⟩
  | 25 => ⟨S_, .f32⟩
  | 26 => ⟨S_, .f32⟩
  | 27 => ⟨S_, .f32⟩
  | 28 => ⟨S_, .f32⟩
  | 29 => ⟨S1x1, .f32⟩
  | 30 => ⟨S1x1, .f32⟩
  | 31 => ⟨S1, .i32⟩
  | 32 => ⟨S_, .i32⟩
  | 33 => ⟨S1, .i32⟩
  | 34 => ⟨S_, .i32⟩
  | 35 => ⟨S32x1000000, .i64⟩
  | 36 => ⟨S32x1000000, .i64⟩
  | 37 => ⟨S_, .i64⟩
  | 38 => ⟨S32x1000000, .i64⟩
  | 39 => ⟨S32x1000000, .i64⟩
  | 40 => ⟨S_, .i64⟩
  | 41 => ⟨S32x1000000, .i64⟩
  | 42 => ⟨S32x1000000, .i64⟩
  | 43 => ⟨S32x1000000, .i64⟩
  | 44 => ⟨S_, .i64⟩
  | 45 => ⟨S32x1000000, .i64⟩
  | 46 => ⟨S32x1000000, .i64⟩
  | 47 => ⟨S32x1000000, .i32⟩
  | 48 => ⟨S32x1000000, .i32⟩
  | 49 => ⟨S_, .i32⟩
  | 50 => ⟨S_, .i32⟩
  | 51 => ⟨S_, .i32⟩
  | 52 => ⟨S32x1000000, .i32⟩
  | 53 => ⟨S32x1000000, .i32⟩
  | 54 => ⟨S32x1000000, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S_, .i32⟩
  | 61 => ⟨S32x1000000, .i32⟩
  | 62 => ⟨S32x1000000, .i32⟩
  | 63 => ⟨S32x1000000, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S32x1000000, .i32⟩
  | 73 => ⟨S32x1000000, .i32⟩
  | 74 => ⟨S32x1000000, .i32⟩
  | 75 => ⟨S_, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S32x1000000, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S32x1000000, .i32⟩
  | 91 => ⟨S32x1000000, .i32⟩
  | 92 => ⟨S32x1000000, .i32⟩
  | 93 => ⟨S32x1000000, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S_, .i32⟩
  | 104 => ⟨S32x1000000, .i32⟩
  | 105 => ⟨S32x1000000, .i32⟩
  | 106 => ⟨S32x1000000, .i32⟩
  | 107 => ⟨S32x1000000, .i32⟩
  | 108 => ⟨S32x1000000, .i32⟩
  | 109 => ⟨S_, .i32⟩
  | 110 => ⟨S32x1000000, .i32⟩
  | 111 => ⟨S32x1000000, .i32⟩
  | 112 => ⟨S_, .i32⟩
  | 113 => ⟨S32x1000000, .i32⟩
  | 114 => ⟨S32x1000000, .i32⟩
  | 115 => ⟨S32x1000000, .i32⟩
  | 116 => ⟨S32x1000000, .i32⟩
  | 117 => ⟨S32x1000000, .i32⟩
  | 118 => ⟨S_, .i32⟩
  | 119 => ⟨S32x1000000, .i32⟩
  | 120 => ⟨S32x1000000, .i32⟩
  | 121 => ⟨S_, .i32⟩
  | 122 => ⟨S32x1000000, .i32⟩
  | 123 => ⟨S32x1000000, .i32⟩
  | 124 => ⟨S32x1000000, .i32⟩
  | 125 => ⟨S32x1000000, .i32⟩
  | 126 => ⟨S32x1000000, .i32⟩
  | 127 => ⟨S_, .i32⟩
  | _ => ⟨S32x1000000, .f32⟩

abbrev hbmTy0_1 (i : Nat) : BufTy := match i % 128 with
  | 0 => ⟨S32x1000000, .i32⟩
  | 1 => ⟨S32x1000000, .i32⟩
  | 2 => ⟨S_, .i32⟩
  | 3 => ⟨S32x1000000, .i32⟩
  | 4 => ⟨S32x1000000, .i32⟩
  | 5 => ⟨S32x1000000, .i32⟩
  | 6 => ⟨S32x1000000, .i32⟩
  | 7 => ⟨S32x1000000, .i32⟩
  | 8 => ⟨S32x1000000, .i32⟩
  | 9 => ⟨S32x1000000, .i32⟩
  | 10 => ⟨S32x1000000, .i32⟩
  | 11 => ⟨S_, .i32⟩
  | 12 => ⟨S32x1000000, .i32⟩
  | 13 => ⟨S32x1000000, .i32⟩
  | 14 => ⟨S32x1000000, .i32⟩
  | 15 => ⟨S_, .i32⟩
  | 16 => ⟨S32x1000000, .i32⟩
  | 17 => ⟨S32x1000000, .i32⟩
  | 18 => ⟨S_, .i32⟩
  | 19 => ⟨S32x1000000, .i32⟩
  | 20 => ⟨S32x1000000, .i32⟩
  | 21 => ⟨S32x1000000, .i32⟩
  | 22 => ⟨S32x1000000, .i32⟩
  | 23 => ⟨S32x1000000, .i32⟩
  | 24 => ⟨S_, .i32⟩
  | 25 => ⟨S32x1000000, .i32⟩
  | 26 => ⟨S32x1000000, .i32⟩
  | 27 => ⟨S_, .i32⟩
  | 28 => ⟨S32x1000000, .i32⟩
  | 29 => ⟨S32x1000000, .i32⟩
  | 30 => ⟨S32x1000000, .i32⟩
  | 31 => ⟨S32x1000000, .i32⟩
  | 32 => ⟨S32x1000000, .i32⟩
  | 33 => ⟨S_, .i32⟩
  | 34 => ⟨S32x1000000, .i32⟩
  | 35 => ⟨S32x1000000, .i32⟩
  | 36 => ⟨S_, .i32⟩
  | 37 => ⟨S32x1000000, .i32⟩
  | 38 => ⟨S32x1000000, .i32⟩
  | 39 => ⟨S32x1000000, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S32x1000000, .i32⟩
  | 49 => ⟨S32x1000000, .i32⟩
  | 50 => ⟨S32x1000000, .i32⟩
  | 51 => ⟨S32x1000000, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S32x1000000, .i32⟩
  | 58 => ⟨S_, .i32⟩
  | 59 => ⟨S32x1000000, .i32⟩
  | 60 => ⟨S32x1000000, .i32⟩
  | 61 => ⟨S_, .i32⟩
  | 62 => ⟨S32x1000000, .i32⟩
  | 63 => ⟨S32x1000000, .i32⟩
  | 64 => ⟨S32x1000000, .i32⟩
  | 65 => ⟨S32x1000000, .i32⟩
  | 66 => ⟨S32x1000000, .i32⟩
  | 67 => ⟨S_, .i32⟩
  | 68 => ⟨S32x1000000, .i32⟩
  | 69 => ⟨S32x1000000, .i32⟩
  | 70 => ⟨S_, .i32⟩
  | 71 => ⟨S32x1000000, .i32⟩
  | 72 => ⟨S32x1000000, .i32⟩
  | 73 => ⟨S32x1000000, .i32⟩
  | 74 => ⟨S32x1000000, .i32⟩
  | 75 => ⟨S32x1000000, .i32⟩
  | 76 => ⟨S_, .i32⟩
  | 77 => ⟨S32x1000000, .i32⟩
  | 78 => ⟨S32x1000000, .i32⟩
  | 79 => ⟨S_, .i32⟩
  | 80 => ⟨S32x1000000, .i32⟩
  | 81 => ⟨S32x1000000, .i32⟩
  | 82 => ⟨S32x1000000, .i32⟩
  | 83 => ⟨S32x1000000, .i32⟩
  | 84 => ⟨S32x1000000, .i32⟩
  | 85 => ⟨S_, .i32⟩
  | 86 => ⟨S32x1000000, .i32⟩
  | 87 => ⟨S32x1000000, .i32⟩
  | 88 => ⟨S_, .i32⟩
  | 89 => ⟨S32x1000000, .i32⟩
  | 90 => ⟨S32x1000000, .i32⟩
  | 91 => ⟨S32x1000000, .i32⟩
  | 92 => ⟨S32x1000000, .i32⟩
  | 93 => ⟨S32x1000000, .i32⟩
  | 94 => ⟨S32x1000000, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S32x1000000, .i32⟩
  | 101 => ⟨S_, .i32⟩
  | 102 => ⟨S32x1000000, .i32⟩
  | 103 => ⟨S32x1000000, .i32⟩
  | 104 => ⟨S_, .i32⟩
  | 105 => ⟨S32x1000000, .i32⟩
  | 106 => ⟨S32x1000000, .i32⟩
  | 107 => ⟨S32x1000000, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S_, .i32⟩
  | 114 => ⟨S32x1000000, .i32⟩
  | 115 => ⟨S32x1000000, .i32⟩
  | 116 => ⟨S32x1000000, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S_, .i32⟩
  | 123 => ⟨S32x1000000, .i32⟩
  | 124 => ⟨S32x1000000, .i32⟩
  | 125 => ⟨S32x1000000, .i32⟩
  | 126 => ⟨S32x1000000, .i32⟩
  | 127 => ⟨S32x1000000, .i32⟩
  | _ => ⟨S32x1000000, .f32⟩

abbrev hbmTy0_2 (i : Nat) : BufTy := match i % 128 with
  | 0 => ⟨S_, .i32⟩
  | 1 => ⟨S32x1000000, .i32⟩
  | 2 => ⟨S32x1000000, .i32⟩
  | 3 => ⟨S_, .i32⟩
  | 4 => ⟨S32x1000000, .i32⟩
  | 5 => ⟨S32x1000000, .i32⟩
  | 6 => ⟨S32x1000000, .i32⟩
  | 7 => ⟨S32x1000000, .i32⟩
  | 8 => ⟨S32x1000000, .i32⟩
  | 9 => ⟨S32x1000000, .i32⟩
  | 10 => ⟨S32x1000000, .i32⟩
  | 11 => ⟨S32x1000000, .i32⟩
  | 12 => ⟨S_, .i32⟩
  | 13 => ⟨S32x1000000, .i32⟩
  | 14 => ⟨S32x1000000, .i32⟩
  | 15 => ⟨S32x1000000, .i32⟩
  | 16 => ⟨S_, .i32⟩
  | 17 => ⟨S32x1000000, .i32⟩
  | 18 => ⟨S32x1000000, .i32⟩
  | 19 => ⟨S_, .i32⟩
  | 20 => ⟨S32x1000000, .i32⟩
  | 21 => ⟨S32x1000000, .i32⟩
  | 22 => ⟨S32x1000000, .f32⟩
  | 23 => ⟨S_, .f32⟩
  | 24 => ⟨S32x1000000, .f32⟩
  | 25 => ⟨S32x1000000, .f32⟩
  | 26 => ⟨S1x1, .f32⟩
  | 27 => ⟨S32x1000000, .f32⟩
  | 28 => ⟨S32x1000000, .f32⟩
  | 29 => ⟨S32x1000000, .f32⟩
  | 30 => ⟨S32x1000000, .f32⟩
  | 31 => ⟨S32x1000000, .f32⟩
  | 32 => ⟨S32x1000000, .f32⟩
  | 33 => ⟨S32x1000000, .f32⟩
  | 34 => ⟨S32x1000000, .f32⟩
  | 35 => ⟨S32x1000000, .f32⟩
  | 36 => ⟨S32x1000000, .f32⟩
  | 37 => ⟨S32x1000000, .i32⟩
  | 38 => ⟨S_, .f32⟩
  | 39 => ⟨S_, .i32⟩
  | 40 => ⟨S32, .f32⟩
  | 41 => ⟨S32, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_cst_0 : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_c : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_call0_c_0 : Ref sig .tc := ⟨.hbm, 40, rfl⟩
abbrev main_call0_call0_v12 : Ref sig .tc := ⟨.hbm, 41, rfl⟩
abbrev main_call0_call0_v13 : Ref sig .tc := ⟨.hbm, 42, rfl⟩
abbrev main_call0_call0_v14 : Ref sig .tc := ⟨.hbm, 43, rfl⟩
abbrev main_call0_call0_c_1 : Ref sig .tc := ⟨.hbm, 44, rfl⟩
abbrev main_call0_call0_v15 : Ref sig .tc := ⟨.hbm, 45, rfl⟩
abbrev main_call0_call0_v16 : Ref sig .tc := ⟨.hbm, 46, rfl⟩
abbrev main_call0_call0_v17 : Ref sig .tc := ⟨.hbm, 47, rfl⟩
abbrev main_call0_call0_v18 : Ref sig .tc := ⟨.hbm, 48, rfl⟩
abbrev main_call0_call0_call0_v0 : Ref sig .tc := ⟨.hbm, 49, rfl⟩
abbrev main_call0_call0_call0_c : Ref sig .tc := ⟨.hbm, 50, rfl⟩
abbrev main_call0_call0_call0_v1 : Ref sig .tc := ⟨.hbm, 51, rfl⟩
abbrev main_call0_call0_call0_v2 : Ref sig .tc := ⟨.hbm, 52, rfl⟩
abbrev main_call0_call0_call0_v3 : Ref sig .tc := ⟨.hbm, 53, rfl⟩
abbrev main_call0_call0_call0_v4 : Ref sig .tc := ⟨.hbm, 54, rfl⟩
abbrev main_call0_call0_call0_v5 : Ref sig .tc := ⟨.hbm, 55, rfl⟩
abbrev main_call0_call0_call0_v6 : Ref sig .tc := ⟨.hbm, 56, rfl⟩
abbrev main_call0_call0_call0_c_0 : Ref sig .tc := ⟨.hbm, 57, rfl⟩
abbrev main_call0_call0_call0_v7 : Ref sig .tc := ⟨.hbm, 58, rfl⟩
abbrev main_call0_call0_call0_v8 : Ref sig .tc := ⟨.hbm, 59, rfl⟩
abbrev main_call0_call0_call0_c_1 : Ref sig .tc := ⟨.hbm, 60, rfl⟩
abbrev main_call0_call0_call0_v9 : Ref sig .tc := ⟨.hbm, 61, rfl⟩
abbrev main_call0_call0_call0_v10 : Ref sig .tc := ⟨.hbm, 62, rfl⟩
abbrev main_call0_call0_call0_v11 : Ref sig .tc := ⟨.hbm, 63, rfl⟩
abbrev main_call0_call0_call0_v12 : Ref sig .tc := ⟨.hbm, 64, rfl⟩
abbrev main_call0_call0_call0_v13 : Ref sig .tc := ⟨.hbm, 65, rfl⟩
abbrev main_call0_call0_call0_c_2 : Ref sig .tc := ⟨.hbm, 66, rfl⟩
abbrev main_call0_call0_call0_v14 : Ref sig .tc := ⟨.hbm, 67, rfl⟩
abbrev main_call0_call0_call0_v15 : Ref sig .tc := ⟨.hbm, 68, rfl⟩
abbrev main_call0_call0_call0_c_3 : Ref sig .tc := ⟨.hbm, 69, rfl⟩
abbrev main_call0_call0_call0_v16 : Ref sig .tc := ⟨.hbm, 70, rfl⟩
abbrev main_call0_call0_call0_v17 : Ref sig .tc := ⟨.hbm, 71, rfl⟩
abbrev main_call0_call0_call0_v18 : Ref sig .tc := ⟨.hbm, 72, rfl⟩
abbrev main_call0_call0_call0_v19 : Ref sig .tc := ⟨.hbm, 73, rfl⟩
abbrev main_call0_call0_call0_v20 : Ref sig .tc := ⟨.hbm, 74, rfl⟩
abbrev main_call0_call0_call0_c_4 : Ref sig .tc := ⟨.hbm, 75, rfl⟩
abbrev main_call0_call0_call0_v21 : Ref sig .tc := ⟨.hbm, 76, rfl⟩
abbrev main_call0_call0_call0_v22 : Ref sig .tc := ⟨.hbm, 77, rfl⟩
abbrev main_call0_call0_call0_c_5 : Ref sig .tc := ⟨.hbm, 78, rfl⟩
abbrev main_call0_call0_call0_v23 : Ref sig .tc := ⟨.hbm, 79, rfl⟩
abbrev main_call0_call0_call0_v24 : Ref sig .tc := ⟨.hbm, 80, rfl⟩
abbrev main_call0_call0_call0_v25 : Ref sig .tc := ⟨.hbm, 81, rfl⟩
abbrev main_call0_call0_call0_v26 : Ref sig .tc := ⟨.hbm, 82, rfl⟩
abbrev main_call0_call0_call0_v27 : Ref sig .tc := ⟨.hbm, 83, rfl⟩
abbrev main_call0_call0_call0_c_6 : Ref sig .tc := ⟨.hbm, 84, rfl⟩
abbrev main_call0_call0_call0_v28 : Ref sig .tc := ⟨.hbm, 85, rfl⟩
abbrev main_call0_call0_call0_v29 : Ref sig .tc := ⟨.hbm, 86, rfl⟩
abbrev main_call0_call0_call0_c_7 : Ref sig .tc := ⟨.hbm, 87, rfl⟩
abbrev main_call0_call0_call0_v30 : Ref sig .tc := ⟨.hbm, 88, rfl⟩
abbrev main_call0_call0_call0_v31 : Ref sig .tc := ⟨.hbm, 89, rfl⟩
abbrev main_call0_call0_call0_v32 : Ref sig .tc := ⟨.hbm, 90, rfl⟩
abbrev main_call0_call0_call0_v33 : Ref sig .tc := ⟨.hbm, 91, rfl⟩
abbrev main_call0_call0_call0_v34 : Ref sig .tc := ⟨.hbm, 92, rfl⟩
abbrev main_call0_call0_call0_v35 : Ref sig .tc := ⟨.hbm, 93, rfl⟩
abbrev main_call0_call0_call0_v36 : Ref sig .tc := ⟨.hbm, 94, rfl⟩
abbrev main_call0_call0_call0_v37 : Ref sig .tc := ⟨.hbm, 95, rfl⟩
abbrev main_call0_call0_call0_c_8 : Ref sig .tc := ⟨.hbm, 96, rfl⟩
abbrev main_call0_call0_call0_v38 : Ref sig .tc := ⟨.hbm, 97, rfl⟩
abbrev main_call0_call0_call0_v39 : Ref sig .tc := ⟨.hbm, 98, rfl⟩
abbrev main_call0_call0_call0_v40 : Ref sig .tc := ⟨.hbm, 99, rfl⟩
abbrev main_call0_call0_call0_c_9 : Ref sig .tc := ⟨.hbm, 100, rfl⟩
abbrev main_call0_call0_call0_v41 : Ref sig .tc := ⟨.hbm, 101, rfl⟩
abbrev main_call0_call0_call0_v42 : Ref sig .tc := ⟨.hbm, 102, rfl⟩
abbrev main_call0_call0_call0_c_10 : Ref sig .tc := ⟨.hbm, 103, rfl⟩
abbrev main_call0_call0_call0_v43 : Ref sig .tc := ⟨.hbm, 104, rfl⟩
abbrev main_call0_call0_call0_v44 : Ref sig .tc := ⟨.hbm, 105, rfl⟩
abbrev main_call0_call0_call0_v45 : Ref sig .tc := ⟨.hbm, 106, rfl⟩
abbrev main_call0_call0_call0_v46 : Ref sig .tc := ⟨.hbm, 107, rfl⟩
abbrev main_call0_call0_call0_v47 : Ref sig .tc := ⟨.hbm, 108, rfl⟩
abbrev main_call0_call0_call0_c_11 : Ref sig .tc := ⟨.hbm, 109, rfl⟩
abbrev main_call0_call0_call0_v48 : Ref sig .tc := ⟨.hbm, 110, rfl⟩
abbrev main_call0_call0_call0_v49 : Ref sig .tc := ⟨.hbm, 111, rfl⟩
abbrev main_call0_call0_call0_c_12 : Ref sig .tc := ⟨.hbm, 112, rfl⟩
abbrev main_call0_call0_call0_v50 : Ref sig .tc := ⟨.hbm, 113, rfl⟩
abbrev main_call0_call0_call0_v51 : Ref sig .tc := ⟨.hbm, 114, rfl⟩
abbrev main_call0_call0_call0_v52 : Ref sig .tc := ⟨.hbm, 115, rfl⟩
abbrev main_call0_call0_call0_v53 : Ref sig .tc := ⟨.hbm, 116, rfl⟩
abbrev main_call0_call0_call0_v54 : Ref sig .tc := ⟨.hbm, 117, rfl⟩
abbrev main_call0_call0_call0_c_13 : Ref sig .tc := ⟨.hbm, 118, rfl⟩
abbrev main_call0_call0_call0_v55 : Ref sig .tc := ⟨.hbm, 119, rfl⟩
abbrev main_call0_call0_call0_v56 : Ref sig .tc := ⟨.hbm, 120, rfl⟩
abbrev main_call0_call0_call0_c_14 : Ref sig .tc := ⟨.hbm, 121, rfl⟩
abbrev main_call0_call0_call0_v57 : Ref sig .tc := ⟨.hbm, 122, rfl⟩
abbrev main_call0_call0_call0_v58 : Ref sig .tc := ⟨.hbm, 123, rfl⟩
abbrev main_call0_call0_call0_v59 : Ref sig .tc := ⟨.hbm, 124, rfl⟩
abbrev main_call0_call0_call0_v60 : Ref sig .tc := ⟨.hbm, 125, rfl⟩
abbrev main_call0_call0_call0_v61 : Ref sig .tc := ⟨.hbm, 126, rfl⟩
abbrev main_call0_call0_call0_c_15 : Ref sig .tc := ⟨.hbm, 127, rfl⟩
abbrev main_call0_call0_call0_v62 : Ref sig .tc := ⟨.hbm, 128, rfl⟩
abbrev main_call0_call0_call0_v63 : Ref sig .tc := ⟨.hbm, 129, rfl⟩
abbrev main_call0_call0_call0_c_16 : Ref sig .tc := ⟨.hbm, 130, rfl⟩
abbrev main_call0_call0_call0_v64 : Ref sig .tc := ⟨.hbm, 131, rfl⟩
abbrev main_call0_call0_call0_v65 : Ref sig .tc := ⟨.hbm, 132, rfl⟩
abbrev main_call0_call0_call0_v66 : Ref sig .tc := ⟨.hbm, 133, rfl⟩
abbrev main_call0_call0_call0_v67 : Ref sig .tc := ⟨.hbm, 134, rfl⟩
abbrev main_call0_call0_call0_v68 : Ref sig .tc := ⟨.hbm, 135, rfl⟩
abbrev main_call0_call0_call0_v69 : Ref sig .tc := ⟨.hbm, 136, rfl⟩
abbrev main_call0_call0_call0_v70 : Ref sig .tc := ⟨.hbm, 137, rfl⟩
abbrev main_call0_call0_call0_v71 : Ref sig .tc := ⟨.hbm, 138, rfl⟩
abbrev main_call0_call0_call0_c_17 : Ref sig .tc := ⟨.hbm, 139, rfl⟩
abbrev main_call0_call0_call0_v72 : Ref sig .tc := ⟨.hbm, 140, rfl⟩
abbrev main_call0_call0_call0_v73 : Ref sig .tc := ⟨.hbm, 141, rfl⟩
abbrev main_call0_call0_call0_v74 : Ref sig .tc := ⟨.hbm, 142, rfl⟩
abbrev main_call0_call0_call0_c_18 : Ref sig .tc := ⟨.hbm, 143, rfl⟩
abbrev main_call0_call0_call0_v75 : Ref sig .tc := ⟨.hbm, 144, rfl⟩
abbrev main_call0_call0_call0_v76 : Ref sig .tc := ⟨.hbm, 145, rfl⟩
abbrev main_call0_call0_call0_c_19 : Ref sig .tc := ⟨.hbm, 146, rfl⟩
abbrev main_call0_call0_call0_v77 : Ref sig .tc := ⟨.hbm, 147, rfl⟩
abbrev main_call0_call0_call0_v78 : Ref sig .tc := ⟨.hbm, 148, rfl⟩
abbrev main_call0_call0_call0_v79 : Ref sig .tc := ⟨.hbm, 149, rfl⟩
abbrev main_call0_call0_call0_v80 : Ref sig .tc := ⟨.hbm, 150, rfl⟩
abbrev main_call0_call0_call0_v81 : Ref sig .tc := ⟨.hbm, 151, rfl⟩
abbrev main_call0_call0_call0_c_20 : Ref sig .tc := ⟨.hbm, 152, rfl⟩
abbrev main_call0_call0_call0_v82 : Ref sig .tc := ⟨.hbm, 153, rfl⟩
abbrev main_call0_call0_call0_v83 : Ref sig .tc := ⟨.hbm, 154, rfl⟩
abbrev main_call0_call0_call0_c_21 : Ref sig .tc := ⟨.hbm, 155, rfl⟩
abbrev main_call0_call0_call0_v84 : Ref sig .tc := ⟨.hbm, 156, rfl⟩
abbrev main_call0_call0_call0_v85 : Ref sig .tc := ⟨.hbm, 157, rfl⟩
abbrev main_call0_call0_call0_v86 : Ref sig .tc := ⟨.hbm, 158, rfl⟩
abbrev main_call0_call0_call0_v87 : Ref sig .tc := ⟨.hbm, 159, rfl⟩
abbrev main_call0_call0_call0_v88 : Ref sig .tc := ⟨.hbm, 160, rfl⟩
abbrev main_call0_call0_call0_c_22 : Ref sig .tc := ⟨.hbm, 161, rfl⟩
abbrev main_call0_call0_call0_v89 : Ref sig .tc := ⟨.hbm, 162, rfl⟩
abbrev main_call0_call0_call0_v90 : Ref sig .tc := ⟨.hbm, 163, rfl⟩
abbrev main_call0_call0_call0_c_23 : Ref sig .tc := ⟨.hbm, 164, rfl⟩
abbrev main_call0_call0_call0_v91 : Ref sig .tc := ⟨.hbm, 165, rfl⟩
abbrev main_call0_call0_call0_v92 : Ref sig .tc := ⟨.hbm, 166, rfl⟩
abbrev main_call0_call0_call0_v93 : Ref sig .tc := ⟨.hbm, 167, rfl⟩
abbrev main_call0_call0_call0_v94 : Ref sig .tc := ⟨.hbm, 168, rfl⟩
abbrev main_call0_call0_call0_v95 : Ref sig .tc := ⟨.hbm, 169, rfl⟩
abbrev main_call0_call0_call0_c_24 : Ref sig .tc := ⟨.hbm, 170, rfl⟩
abbrev main_call0_call0_call0_v96 : Ref sig .tc := ⟨.hbm, 171, rfl⟩
abbrev main_call0_call0_call0_v97 : Ref sig .tc := ⟨.hbm, 172, rfl⟩
abbrev main_call0_call0_call0_c_25 : Ref sig .tc := ⟨.hbm, 173, rfl⟩
abbrev main_call0_call0_call0_v98 : Ref sig .tc := ⟨.hbm, 174, rfl⟩
abbrev main_call0_call0_call0_v99 : Ref sig .tc := ⟨.hbm, 175, rfl⟩
abbrev main_call0_call0_call0_v100 : Ref sig .tc := ⟨.hbm, 176, rfl⟩
abbrev main_call0_call0_call0_v101 : Ref sig .tc := ⟨.hbm, 177, rfl⟩
abbrev main_call0_call0_call0_v102 : Ref sig .tc := ⟨.hbm, 178, rfl⟩
abbrev main_call0_call0_call0_v103 : Ref sig .tc := ⟨.hbm, 179, rfl⟩
abbrev main_call0_call0_call0_v104 : Ref sig .tc := ⟨.hbm, 180, rfl⟩
abbrev main_call0_call0_call0_v105 : Ref sig .tc := ⟨.hbm, 181, rfl⟩
abbrev main_call0_call0_call0_c_26 : Ref sig .tc := ⟨.hbm, 182, rfl⟩
abbrev main_call0_call0_call0_v106 : Ref sig .tc := ⟨.hbm, 183, rfl⟩
abbrev main_call0_call0_call0_v107 : Ref sig .tc := ⟨.hbm, 184, rfl⟩
abbrev main_call0_call0_call0_v108 : Ref sig .tc := ⟨.hbm, 185, rfl⟩
abbrev main_call0_call0_call0_c_27 : Ref sig .tc := ⟨.hbm, 186, rfl⟩
abbrev main_call0_call0_call0_v109 : Ref sig .tc := ⟨.hbm, 187, rfl⟩
abbrev main_call0_call0_call0_v110 : Ref sig .tc := ⟨.hbm, 188, rfl⟩
abbrev main_call0_call0_call0_c_28 : Ref sig .tc := ⟨.hbm, 189, rfl⟩
abbrev main_call0_call0_call0_v111 : Ref sig .tc := ⟨.hbm, 190, rfl⟩
abbrev main_call0_call0_call0_v112 : Ref sig .tc := ⟨.hbm, 191, rfl⟩
abbrev main_call0_call0_call0_v113 : Ref sig .tc := ⟨.hbm, 192, rfl⟩
abbrev main_call0_call0_call0_v114 : Ref sig .tc := ⟨.hbm, 193, rfl⟩
abbrev main_call0_call0_call0_v115 : Ref sig .tc := ⟨.hbm, 194, rfl⟩
abbrev main_call0_call0_call0_c_29 : Ref sig .tc := ⟨.hbm, 195, rfl⟩
abbrev main_call0_call0_call0_v116 : Ref sig .tc := ⟨.hbm, 196, rfl⟩
abbrev main_call0_call0_call0_v117 : Ref sig .tc := ⟨.hbm, 197, rfl⟩
abbrev main_call0_call0_call0_c_30 : Ref sig .tc := ⟨.hbm, 198, rfl⟩
abbrev main_call0_call0_call0_v118 : Ref sig .tc := ⟨.hbm, 199, rfl⟩
abbrev main_call0_call0_call0_v119 : Ref sig .tc := ⟨.hbm, 200, rfl⟩
abbrev main_call0_call0_call0_v120 : Ref sig .tc := ⟨.hbm, 201, rfl⟩
abbrev main_call0_call0_call0_v121 : Ref sig .tc := ⟨.hbm, 202, rfl⟩
abbrev main_call0_call0_call0_v122 : Ref sig .tc := ⟨.hbm, 203, rfl⟩
abbrev main_call0_call0_call0_c_31 : Ref sig .tc := ⟨.hbm, 204, rfl⟩
abbrev main_call0_call0_call0_v123 : Ref sig .tc := ⟨.hbm, 205, rfl⟩
abbrev main_call0_call0_call0_v124 : Ref sig .tc := ⟨.hbm, 206, rfl⟩
abbrev main_call0_call0_call0_c_32 : Ref sig .tc := ⟨.hbm, 207, rfl⟩
abbrev main_call0_call0_call0_v125 : Ref sig .tc := ⟨.hbm, 208, rfl⟩
abbrev main_call0_call0_call0_v126 : Ref sig .tc := ⟨.hbm, 209, rfl⟩
abbrev main_call0_call0_call0_v127 : Ref sig .tc := ⟨.hbm, 210, rfl⟩
abbrev main_call0_call0_call0_v128 : Ref sig .tc := ⟨.hbm, 211, rfl⟩
abbrev main_call0_call0_call0_v129 : Ref sig .tc := ⟨.hbm, 212, rfl⟩
abbrev main_call0_call0_call0_c_33 : Ref sig .tc := ⟨.hbm, 213, rfl⟩
abbrev main_call0_call0_call0_v130 : Ref sig .tc := ⟨.hbm, 214, rfl⟩
abbrev main_call0_call0_call0_v131 : Ref sig .tc := ⟨.hbm, 215, rfl⟩
abbrev main_call0_call0_call0_c_34 : Ref sig .tc := ⟨.hbm, 216, rfl⟩
abbrev main_call0_call0_call0_v132 : Ref sig .tc := ⟨.hbm, 217, rfl⟩
abbrev main_call0_call0_call0_v133 : Ref sig .tc := ⟨.hbm, 218, rfl⟩
abbrev main_call0_call0_call0_v134 : Ref sig .tc := ⟨.hbm, 219, rfl⟩
abbrev main_call0_call0_call0_v135 : Ref sig .tc := ⟨.hbm, 220, rfl⟩
abbrev main_call0_call0_call0_v136 : Ref sig .tc := ⟨.hbm, 221, rfl⟩
abbrev main_call0_call0_call0_v137 : Ref sig .tc := ⟨.hbm, 222, rfl⟩
abbrev main_call0_call0_call0_v138 : Ref sig .tc := ⟨.hbm, 223, rfl⟩
abbrev main_call0_call0_call0_v139 : Ref sig .tc := ⟨.hbm, 224, rfl⟩
abbrev main_call0_call0_call0_c_35 : Ref sig .tc := ⟨.hbm, 225, rfl⟩
abbrev main_call0_call0_call0_v140 : Ref sig .tc := ⟨.hbm, 226, rfl⟩
abbrev main_call0_call0_call0_v141 : Ref sig .tc := ⟨.hbm, 227, rfl⟩
abbrev main_call0_call0_call0_v142 : Ref sig .tc := ⟨.hbm, 228, rfl⟩
abbrev main_call0_call0_call0_c_36 : Ref sig .tc := ⟨.hbm, 229, rfl⟩
abbrev main_call0_call0_call0_v143 : Ref sig .tc := ⟨.hbm, 230, rfl⟩
abbrev main_call0_call0_call0_v144 : Ref sig .tc := ⟨.hbm, 231, rfl⟩
abbrev main_call0_call0_call0_c_37 : Ref sig .tc := ⟨.hbm, 232, rfl⟩
abbrev main_call0_call0_call0_v145 : Ref sig .tc := ⟨.hbm, 233, rfl⟩
abbrev main_call0_call0_call0_v146 : Ref sig .tc := ⟨.hbm, 234, rfl⟩
abbrev main_call0_call0_call0_v147 : Ref sig .tc := ⟨.hbm, 235, rfl⟩
abbrev main_call0_call0_call0_v148 : Ref sig .tc := ⟨.hbm, 236, rfl⟩
abbrev main_call0_call0_call0_v149 : Ref sig .tc := ⟨.hbm, 237, rfl⟩
abbrev main_call0_call0_call0_c_38 : Ref sig .tc := ⟨.hbm, 238, rfl⟩
abbrev main_call0_call0_call0_v150 : Ref sig .tc := ⟨.hbm, 239, rfl⟩
abbrev main_call0_call0_call0_v151 : Ref sig .tc := ⟨.hbm, 240, rfl⟩
abbrev main_call0_call0_call0_c_39 : Ref sig .tc := ⟨.hbm, 241, rfl⟩
abbrev main_call0_call0_call0_v152 : Ref sig .tc := ⟨.hbm, 242, rfl⟩
abbrev main_call0_call0_call0_v153 : Ref sig .tc := ⟨.hbm, 243, rfl⟩
abbrev main_call0_call0_call0_v154 : Ref sig .tc := ⟨.hbm, 244, rfl⟩
abbrev main_call0_call0_call0_v155 : Ref sig .tc := ⟨.hbm, 245, rfl⟩
abbrev main_call0_call0_call0_v156 : Ref sig .tc := ⟨.hbm, 246, rfl⟩
abbrev main_call0_call0_call0_c_40 : Ref sig .tc := ⟨.hbm, 247, rfl⟩
abbrev main_call0_call0_call0_v157 : Ref sig .tc := ⟨.hbm, 248, rfl⟩
abbrev main_call0_call0_call0_v158 : Ref sig .tc := ⟨.hbm, 249, rfl⟩
abbrev main_call0_call0_call0_c_41 : Ref sig .tc := ⟨.hbm, 250, rfl⟩
abbrev main_call0_call0_call0_v159 : Ref sig .tc := ⟨.hbm, 251, rfl⟩
abbrev main_call0_call0_call0_v160 : Ref sig .tc := ⟨.hbm, 252, rfl⟩
abbrev main_call0_call0_call0_v161 : Ref sig .tc := ⟨.hbm, 253, rfl⟩
abbrev main_call0_call0_call0_v162 : Ref sig .tc := ⟨.hbm, 254, rfl⟩
abbrev main_call0_call0_call0_v163 : Ref sig .tc := ⟨.hbm, 255, rfl⟩
abbrev main_call0_call0_call0_c_42 : Ref sig .tc := ⟨.hbm, 256, rfl⟩
abbrev main_call0_call0_call0_v164 : Ref sig .tc := ⟨.hbm, 257, rfl⟩
abbrev main_call0_call0_call0_v165 : Ref sig .tc := ⟨.hbm, 258, rfl⟩
abbrev main_call0_call0_call0_c_43 : Ref sig .tc := ⟨.hbm, 259, rfl⟩
abbrev main_call0_call0_call0_v166 : Ref sig .tc := ⟨.hbm, 260, rfl⟩
abbrev main_call0_call0_call0_v167 : Ref sig .tc := ⟨.hbm, 261, rfl⟩
abbrev main_call0_call0_call0_v168 : Ref sig .tc := ⟨.hbm, 262, rfl⟩
abbrev main_call0_call0_call0_v169 : Ref sig .tc := ⟨.hbm, 263, rfl⟩
abbrev main_call0_call0_call0_v170 : Ref sig .tc := ⟨.hbm, 264, rfl⟩
abbrev main_call0_call0_v19_0 : Ref sig .tc := ⟨.hbm, 265, rfl⟩
abbrev main_call0_call0_call0_v172 : Ref sig .tc := ⟨.hbm, 266, rfl⟩
abbrev main_call0_call0_call0_v173 : Ref sig .tc := ⟨.hbm, 267, rfl⟩
abbrev main_call0_call0_call0_c_44 : Ref sig .tc := ⟨.hbm, 268, rfl⟩
abbrev main_call0_call0_call0_v174 : Ref sig .tc := ⟨.hbm, 269, rfl⟩
abbrev main_call0_call0_v19_1 : Ref sig .tc := ⟨.hbm, 270, rfl⟩
abbrev main_call0_call0_v20 : Ref sig .tc := ⟨.hbm, 271, rfl⟩
abbrev main_call0_call0_c_2 : Ref sig .tc := ⟨.hbm, 272, rfl⟩
abbrev main_call0_call0_v21 : Ref sig .tc := ⟨.hbm, 273, rfl⟩
abbrev main_call0_call0_v22 : Ref sig .tc := ⟨.hbm, 274, rfl⟩
abbrev main_call0_call0_c_3 : Ref sig .tc := ⟨.hbm, 275, rfl⟩
abbrev main_call0_call0_v23 : Ref sig .tc := ⟨.hbm, 276, rfl⟩
abbrev main_call0_call0_v24 : Ref sig .tc := ⟨.hbm, 277, rfl⟩
abbrev main_call0_call0_v25 : Ref sig .tc := ⟨.hbm, 278, rfl⟩
abbrev main_call0_call0_cst : Ref sig .tc := ⟨.hbm, 279, rfl⟩
abbrev main_call0_call0_v26 : Ref sig .tc := ⟨.hbm, 280, rfl⟩
abbrev main_call0_call0_v27 : Ref sig .tc := ⟨.hbm, 281, rfl⟩
abbrev main_call0_call0_v28 : Ref sig .tc := ⟨.hbm, 282, rfl⟩
abbrev main_call0_call0_v29 : Ref sig .tc := ⟨.hbm, 283, rfl⟩
abbrev main_call0_call0_v30 : Ref sig .tc := ⟨.hbm, 284, rfl⟩
abbrev main_call0_call0_v31 : Ref sig .tc := ⟨.hbm, 285, rfl⟩
abbrev main_call0_call0_v32 : Ref sig .tc := ⟨.hbm, 286, rfl⟩
abbrev main_call0_call0_v33 : Ref sig .tc := ⟨.hbm, 287, rfl⟩
abbrev main_call0_v0 : Ref sig .tc := ⟨.hbm, 288, rfl⟩
abbrev main_call0_v1 : Ref sig .tc := ⟨.hbm, 289, rfl⟩
abbrev main_call0_v2 : Ref sig .tc := ⟨.hbm, 290, rfl⟩
abbrev main_v18 : Ref sig .tc := ⟨.hbm, 291, rfl⟩
abbrev main_v19 : Ref sig .tc := ⟨.hbm, 292, rfl⟩
abbrev main_call1_v0 : Ref sig .tc := ⟨.hbm, 293, rfl⟩
abbrev main_call1_cst : Ref sig .tc := ⟨.hbm, 294, rfl⟩
abbrev main_call1_c : Ref sig .tc := ⟨.hbm, 295, rfl⟩
abbrev main_call1_v1_0 : Ref sig .tc := ⟨.hbm, 296, rfl⟩
abbrev main_v20 : Ref sig .tc := ⟨.hbm, 297, rfl⟩

abbrev nD : Nat := 1
abbrev τ : Topo := Topo.v7x

variable {F : FTy → Type} [FloatOps F]
-- ==== Proof.Noise.Follow.lean ====
/- Two programs' straight lines of host operations that do the same work on buffers of different signatures, the
   buffers of the second lying at a constant distance `k` behind those of the first. `Follows` says that a printed
   program of the second signature is such a line, whose operations run in step with a list of operations of the first;
   `Agree` is what the two valuations share along the way. -/
module

public import Idealize.ShloMosaic.Lib.StableHlo.Run

@[expose] public section

namespace Cert.Follow

open Idealize.ShloMosaic Idealize.ShloMosaic.StableHlo Idealize.SL.Sem

/-- The reference `r` is the device buffer number `n`. -/
structure Pos {sig : RefSig} (r : Ref sig .tc) (n : Nat) : Prop where
  space : r.space = .hbm
  idx : r.idx.val = n

/-- A buffer's number determines its reference. -/
theorem Pos.unique {sig : RefSig} {r r' : Ref sig .tc} {n : Nat} (h : Pos r n) (h' : Pos r' n) : r = r' := by
  obtain ⟨s, i, hi⟩ := r
  obtain ⟨s', i', hi'⟩ := r'
  obtain ⟨hs, hn⟩ := h
  obtain ⟨hs', hn'⟩ := h'
  simp only at hs hs' hn hn'
  subst hs hs'
  have : i = i' := Fin.ext (hn.trans hn'.symm)
  subst this
  rfl

/-- References of different numbers differ. -/
theorem Pos.ne {sig : RefSig} {r r' : Ref sig .tc} {n n' : Nat} (h : Pos r n) (h' : Pos r' n') (hne : n ≠ n') : r ≠ r' := by
  rintro rfl
  exact hne (h.idx.symm.trans h'.idx)

variable {nD : Nat} {τ : Topo} {sigA sigB : RefSig} {Val : EltTy → Type} {Λ : Labels}

/-- Buffers number `lo` up to `N` of the first valuation hold what the buffers `k` further on of the second hold. -/
def Agree (k lo N : Nat) (V : Valuation τ sigA Val) (W : Valuation τ sigB Val) : Prop :=
  ∀ (T : BufTy) (x : TRef sigA T) (y : TRef sigB T) (i : Nat), lo ≤ i → i < N → Pos x.ref i → Pos y.ref (i + k) →
    x.ofBuf (V (Proc.devRef .tc x.ref)) = y.ofBuf (W (Proc.devRef .tc y.ref))

/-- No buffer lies in an empty range. -/
theorem Agree.empty (k lo : Nat) (V : Valuation τ sigA Val) (W : Valuation τ sigB Val) : Agree k lo lo V W :=
  fun _ _ _ _ h h' _ _ => absurd h' (Nat.not_lt.2 h)

/-- Two typed references to one buffer are one, and their types too. -/
theorem tref_eq {sig : RefSig} {T T' : BufTy} (x : TRef sig T) (y : TRef sig T') (h : x.ref = y.ref) : T = T' ∧ HEq x y := by
  obtain ⟨r, hr, h1, h2⟩ := x
  obtain ⟨r', hr', h1', h2'⟩ := y
  simp only at h
  subst h
  subst hr
  subst hr'
  exact ⟨rfl, HEq.rfl⟩

/-- Two operations that write the next buffer of either side, the same contents, keep the two sides in step. -/
theorem Agree.step {k lo n : Nat} {V : Valuation τ sigA Val} {W : Valuation τ sigB Val} (h : Agree k lo n V W)
    {T : BufTy} (opA : HloOp τ sigA Val) (opB : HloOp τ sigB Val) (a : TRef sigA T) (b : TRef sigB T)
    (hA : opA.writes = {Proc.devRef (τ := τ) .tc a.ref}) (hB : opB.writes = {Proc.devRef (τ := τ) .tc b.ref})
    (ha : Pos a.ref n) (hb : Pos b.ref (n + k))
    (hv : a.ofBuf (opA.result V (Proc.devRef .tc a.ref)) = b.ofBuf (opB.result W (Proc.devRef .tc b.ref))) :
    Agree k lo (n + 1) (opA.result V) (opB.result W) := by
  intro T' x y i hlo hlt hx hy
  rcases Nat.lt_or_ge i n with hin | hin
  · rw [result_of_writes_ne opA V a.ref x.ref hA (hx.ne ha (Nat.ne_of_lt hin)),
      result_of_writes_ne opB W b.ref y.ref hB (hy.ne hb (by omega))]
    exact h T' x y i hlo hin hx hy
  · obtain rfl : i = n := by omega
    obtain ⟨rfl, hxa⟩ := tref_eq x a (hx.unique ha)
    obtain ⟨-, hyb⟩ := tref_eq y b (hy.unique hb)
    cases hxa
    cases hyb
    exact hv

/-- The program `p` is a line of operations writing the buffers `n + k` up to `N + k`, in step with the operations
    `A` of the other signature, which write the buffers `n` up to `N`. -/
def Follows (k lo n N : Nat) (A : List (HloOp τ sigA Val)) (p : Prog (TpuEff nD τ sigB Val Λ .tc) PUnit) : Prop :=
  ∃ l : List (HloOp τ sigB Val), p = seq l ∧ (l.Forall fun op => op.bufs ⊆ tcRefs τ sigB) ∧ (∀ op ∈ l, op.fresh = ∅)
    ∧ (n ≤ N)
    ∧ (∀ (V : Valuation τ sigA Val) (W : Valuation τ sigB Val), Agree k lo n V W → Agree k lo N (after A V) (after l W))
    ∧ (∀ (W : Valuation τ sigB Val) (r : Ref sigB .tc), (∀ i, Pos r i → i < n + k ∨ N + k ≤ i) →
        after l W (Proc.devRef .tc r) = W (Proc.devRef .tc r))

/-- The empty line. -/
theorem Follows.ret (k lo n : Nat) : Follows (τ := τ) (sigA := sigA) k lo n n ([] : List (HloOp τ sigA Val))
    (pure ⟨⟩ : Prog (TpuEff nD τ sigB Val Λ .tc) PUnit) :=
  ⟨[], rfl, trivial, (fun _ h => nomatch h), le_rfl, fun _ _ h => h, fun _ _ _ => rfl⟩

/-- One operation on either side, before lines in step. -/
theorem Follows.step {k lo n N : Nat} {A : List (HloOp τ sigA Val)} {p : Prog (TpuEff nD τ sigB Val Λ .tc) PUnit}
    {T : BufTy} (opA : HloOp τ sigA Val) (opB : HloOp τ sigB Val) (a : TRef sigA T) (b : TRef sigB T)
    (hA : opA.writes = {Proc.devRef (τ := τ) .tc a.ref}) (hB : opB.writes = {Proc.devRef (τ := τ) .tc b.ref})
    (hs : opB.bufs ⊆ tcRefs τ sigB) (hf : opB.fresh = ∅)
    (ha : Pos a.ref n) (hb : Pos b.ref (n + k))
    (hv : ∀ (V : Valuation τ sigA Val) (W : Valuation τ sigB Val), Agree k lo n V W →
      a.ofBuf (opA.result V (Proc.devRef .tc a.ref)) = b.ofBuf (opB.result W (Proc.devRef .tc b.ref)))
    (h : Follows k lo (n + 1) N A p) :
    Follows k lo n N (opA :: A) ((hlo rfl opB fun _ => .ret (⟨⟩ : PUnit)) >>= fun _ => p) := by
  obtain ⟨l, rfl, hsub, hfresh, hle, hag, hkeep⟩ := h
  refine ⟨opB :: l, rfl, (List.forall_cons _ _ _).mpr ⟨hs, hsub⟩, ?_, by omega, ?_, ?_⟩
  · intro op hop
    rcases List.mem_cons.mp hop with rfl | hop
    · exact hf
    · exact hfresh op hop
  · intro V W hVW
    rw [after_cons, after_cons]
    exact hag _ _ (hVW.step opA opB a b hA hB ha hb (hv V W hVW))
  · intro W r hr
    rw [after_cons, hkeep _ r fun i hi => (hr i hi).imp (fun h => by omega) id]
    refine result_of_writes_ne opB W b.ref r hB fun he => ?_
    subst he
    rcases hr _ hb with h | h <;> omega

/-- A pair of earlier buffers: of the numbers asked, and so holding the same contents. -/
structure Pair (k lo n : Nat) {T : BufTy} (x : TRef sigA T) (y : TRef sigB T) : Prop where
  ex : ∃ i, lo ≤ i ∧ i < n ∧ Pos x.ref i ∧ Pos y.ref (i + k)

theorem Pair.eq {k lo n : Nat} {T : BufTy} {x : TRef sigA T} {y : TRef sigB T} (h : Pair k lo n x y)
    {V : Valuation τ sigA Val} {W : Valuation τ sigB Val} (hVW : Agree k lo n V W) :
    x.ofBuf (V (Proc.devRef .tc x.ref)) = y.ofBuf (W (Proc.devRef .tc y.ref)) :=
  have ⟨i, hlo, hlt, hx, hy⟩ := h.ex
  hVW T x y i hlo hlt hx hy

section Builders

variable {k lo n N : Nat} {A : List (HloOp τ sigA Val)} {p : Prog (TpuEff nD τ sigB Val Λ .tc) PUnit} {T Tx Ty : BufTy}

/-- A constant on either side. -/
theorem Follows.nullary (a : TRef sigA T) (b : TRef sigB T) (v w : T.Contents Val) (hvw : v = w)
    (ha : Pos a.ref n) (hb : Pos b.ref (n + k)) (h : Follows k lo (n + 1) N A p) :
    Follows k lo n N (TRef.nullary a v :: A) ((hlo rfl (TRef.nullary b w) fun _ => .ret (⟨⟩ : PUnit)) >>= fun _ => p) := by
  subst hvw
  refine Follows.step _ _ a b rfl rfl (nullary_bufs_sub ..) rfl ha hb (fun V W _ => ?_) h
  rw [nullary_result, nullary_result, TRef.ofBuf_toBuf, TRef.ofBuf_toBuf]

/-- One function of one earlier buffer. -/
theorem Follows.unary (x : TRef sigA Tx) (y : TRef sigB Tx) (a : TRef sigA T) (b : TRef sigB T)
    (f g : Tx.Contents Val → T.Contents Val) (hfg : f = g) (hxy : Pair k lo n x y)
    (ha : Pos a.ref n) (hb : Pos b.ref (n + k)) (h : Follows k lo (n + 1) N A p) :
    Follows k lo n N (TRef.unary x a f :: A) ((hlo rfl (TRef.unary y b g) fun _ => .ret (⟨⟩ : PUnit)) >>= fun _ => p) := by
  subst hfg
  refine Follows.step _ _ a b rfl rfl (unary_bufs_sub ..) rfl ha hb (fun V W hVW => ?_) h
  rw [unary_result, unary_result, TRef.ofBuf_toBuf, TRef.ofBuf_toBuf, hxy.eq hVW]

/-- One function of two earlier buffers. -/
theorem Follows.binary (x : TRef sigA Tx) (x' : TRef sigB Tx) (y : TRef sigA Ty) (y' : TRef sigB Ty) (a : TRef sigA T)
    (b : TRef sigB T) (f g : Tx.Contents Val → Ty.Contents Val → T.Contents Val) (hfg : f = g) (hx : Pair k lo n x x')
    (hy : Pair k lo n y y') (ha : Pos a.ref n) (hb : Pos b.ref (n + k)) (h : Follows k lo (n + 1) N A p) :
    Follows k lo n N (TRef.binary x y a f :: A)
      ((hlo rfl (TRef.binary x' y' b g) fun _ => .ret (⟨⟩ : PUnit)) >>= fun _ => p) := by
  subst hfg
  refine Follows.step _ _ a b rfl rfl (binary_bufs_sub ..) rfl ha hb (fun V W hVW => ?_) h
  rw [binary_result, binary_result, TRef.ofBuf_toBuf, TRef.ofBuf_toBuf, hx.eq hVW, hy.eq hVW]

/-- A reshape, read at the values' types. -/
theorem ofBuf_reshape {sig : RefSig} (x : TRef sig Tx) (y : TRef sig Ty) (he : Tx.elt = Ty.elt)
    (hn : Tx.shape.ShapeCasts Ty.shape) (V : Valuation τ sig Val) :
    y.ofBuf ((TRef.reshape (τ := τ) x y he hn).result V (Proc.devRef .tc y.ref))
      = fun i => he ▸ shapeCast Ty.shape (x.ofBuf (V (Proc.devRef .tc x.ref))) hn i := by
  rw [reshape_result]
  obtain ⟨r, hr, h1, h2⟩ := x
  obtain ⟨r', hr', h1', h2'⟩ := y
  subst hr
  subst hr'
  rfl

/-- A reshape of one earlier buffer. -/
theorem Follows.reshape (x : TRef sigA Tx) (y : TRef sigB Tx) (a : TRef sigA T) (b : TRef sigB T)
    (he he' : Tx.elt = T.elt) (hn hn' : Tx.shape.ShapeCasts T.shape) (hxy : Pair k lo n x y)
    (ha : Pos a.ref n) (hb : Pos b.ref (n + k)) (h : Follows k lo (n + 1) N A p) :
    Follows k lo n N (TRef.reshape x a he hn :: A)
      ((hlo rfl (TRef.reshape y b he' hn') fun _ => .ret (⟨⟩ : PUnit)) >>= fun _ => p) := by
  refine Follows.step _ _ a b rfl rfl (reshape_bufs_sub ..) rfl ha hb (fun V W hVW => ?_) h
  rw [ofBuf_reshape, ofBuf_reshape, hxy.eq hVW]

end Builders

/-- Two lines in step, then two more. -/
theorem Follows.append {k lo n M N : Nat} {A B : List (HloOp τ sigA Val)} {p q : Prog (TpuEff nD τ sigB Val Λ .tc) PUnit}
    (hp : Follows k lo n M A p) (hq : Follows k lo M N B q) : Follows k lo n N (A ++ B) (p >>= fun _ => q) := by
  obtain ⟨l, rfl, hsub, hfresh, hle, hag, hkeep⟩ := hp
  obtain ⟨l', rfl, hsub', hfresh', hle', hag', hkeep'⟩ := hq
  have happ : ∀ {sig : RefSig} (l l' : List (HloOp τ sig Val)) (V : Valuation τ sig Val), after (l ++ l') V = after l' (after l V) := by
    intro sig l l'
    induction l with
    | nil => intro V; rfl
    | cons op l ih => intro V; exact ih _
  refine ⟨l ++ l', (seq_append l l').symm, ?_, ?_, hle.trans hle', ?_, ?_⟩
  · rw [List.forall_iff_forall_mem] at hsub hsub' ⊢
    exact fun op hop => (List.mem_append.mp hop).elim (hsub op) (hsub' op)
  · exact fun op hop => (List.mem_append.mp hop).elim (hfresh op) (hfresh' op)
  · intro V W hVW
    rw [happ, happ]
    exact hag' _ _ (hag _ _ hVW)
  · intro W r hr
    rw [happ, hkeep' _ r fun i hi => (hr i hi).imp (fun h => by omega) id,
      hkeep _ r fun i hi => (hr i hi).imp id (fun h => by omega)]

end Cert.Follow

end
-- ==== Proof.Noise.Draw.lean ====
/- The two programs draw the same noise: the kernel's host operations that compute the exponential deviates, and the
   reference's, run in step. -/
module

public import proofs.«01_k».proof.Proof.Noise.Follow
public import proofs.«01_k».proof.Proof.Gen.KernelIdeal.Launch
public import proofs.«01_k».proof.Proof.Gen.ReferenceIdeal

@[expose] public section

set_option maxRecDepth 8000

noncomputable section

namespace Cert.Follow

open Idealize.ShloMosaic Idealize.ShloMosaic.StableHlo Idealize.SL.Sem

variable {F : FTy → Type} [FloatOps F]

set_option maxHeartbeats 40000000 in
/-- The reference's threefry rounds, uniform deviates and exponential deviates run in step with the kernel's. -/
theorem exponential_follows :
    Follows 13 2 12 279 (Cert.KernelIdeal.Gen.hostOps0_1 (F := F))
      (Cert.ReferenceIdeal.fn_exponential.body (F := F) (.of Cert.ReferenceIdeal.main_v17) Cert.ReferenceIdeal.main_call0) := by
  unfold Cert.ReferenceIdeal.fn_exponential.body Cert.ReferenceIdeal.fn_uniform.body Cert.ReferenceIdeal.fn_threefry2x32.body
    Cert.ReferenceIdeal.fn_threefry2x32.body_part0 Cert.ReferenceIdeal.fn_threefry2x32.body_part1
    Cert.ReferenceIdeal.fn_threefry2x32.body_part2 Cert.ReferenceIdeal.fn_threefry2x32.body_part3
  unfold Cert.KernelIdeal.Gen.hostOps0_1
  simp only [bind_assoc, pure_bind]
  repeat (first
    | (with_reducible refine Follows.binary _ _ _ _ _ _ _ _ ?_ ?_ ?_ ?_ ?_ ?_
       · exact rfl
       · exact ⟨_, by decide, by decide, ⟨rfl, rfl⟩, ⟨rfl, rfl⟩⟩
       · exact ⟨_, by decide, by decide, ⟨rfl, rfl⟩, ⟨rfl, rfl⟩⟩
       · exact ⟨rfl, rfl⟩
       · exact ⟨rfl, rfl⟩)
    | (with_reducible refine Follows.unary _ _ _ _ _ _ ?_ ?_ ?_ ?_ ?_
       · exact rfl
       · exact ⟨_, by decide, by decide, ⟨rfl, rfl⟩, ⟨rfl, rfl⟩⟩
       · exact ⟨rfl, rfl⟩
       · exact ⟨rfl, rfl⟩)
    | (with_reducible refine Follows.nullary _ _ _ _ ?_ ?_ ?_ ?_
       · exact rfl
       · exact ⟨rfl, rfl⟩
       · exact ⟨rfl, rfl⟩)
    | (with_reducible refine Follows.reshape _ _ _ _ _ _ _ _ ?_ ?_ ?_ ?_
       · exact ⟨_, by decide, by decide, ⟨rfl, rfl⟩, ⟨rfl, rfl⟩⟩
       · exact ⟨rfl, rfl⟩
       · exact ⟨rfl, rfl⟩))
  exact Follows.ret 13 2 279

end Cert.Follow

end
-- ==== Proof.Noise.Reference.lean ====
/- The reference's run: the softmax, the noise, the scores and their index of the maximum. The noise is stated as what
   the kernel's own host operations compute. -/
module

public import proofs.«01_k».proof.Proof.Noise.Draw

@[expose] public section

set_option maxRecDepth 8000

noncomputable section

namespace Cert.KernelIdeal.Key

open Idealize.ShloMosaic Idealize.ShloMosaic.StableHlo Idealize.ShloMosaic.TcCoe Idealize.SL.Sem
open Cert.KernelIdeal Cert.KernelIdeal.Gen

variable {F : FTy → Type} [FloatOps F]

/-- The kernel's host operations that make the key. -/
abbrev keyOps : List (HloOp τ sig (Elt F)) :=
  [ TRef.nullary (.of main_c : TRef sig ⟨S_, .i32⟩) (constantI S_ 32 1#32),
    TRef.nullary (.of main_c_0 : TRef sig ⟨S_, .i32⟩) (constantI S_ 32 32#32),
    TRef.binary (.of main_c : TRef sig ⟨S_, .i32⟩) (.of main_c_0 : TRef sig ⟨S_, .i32⟩) (.of main_v1 : TRef sig ⟨S_, .i32⟩) Host.shrui,
    TRef.unary (.of main_v1 : TRef sig ⟨S_, .i32⟩) (.of main_v2 : TRef sig ⟨S_, .i32⟩) id,
    TRef.unary (.of main_v2 : TRef sig ⟨S_, .i32⟩) (.of main_v3 : TRef sig ⟨S1, .i32⟩) (broadcastInDim S1 ![] bcast_S_S1),
    TRef.nullary (.of main_c_1 : TRef sig ⟨S_, .i32⟩) (constantI S_ 32 4294967295#32),
    TRef.binary (.of main_c : TRef sig ⟨S_, .i32⟩) (.of main_c_1 : TRef sig ⟨S_, .i32⟩) (.of main_v4 : TRef sig ⟨S_, .i32⟩) andi,
    TRef.unary (.of main_v4 : TRef sig ⟨S_, .i32⟩) (.of main_v5 : TRef sig ⟨S_, .i32⟩) id,
    TRef.unary (.of main_v5 : TRef sig ⟨S_, .i32⟩) (.of main_v6 : TRef sig ⟨S1, .i32⟩) (broadcastInDim S1 ![] bcast_S_S1),
    TRef.binary (.of main_v3 : TRef sig ⟨S1, .i32⟩) (.of main_v6 : TRef sig ⟨S1, .i32⟩) (.of main_v7 : TRef sig ⟨S2, .i32⟩)
      (fun a b => concatenate S2 0 [⟨S1, a⟩, ⟨S1, b⟩] concatenates_S1_S1_S2_d0) ]

/-- The host operations before the noise are the logits' reshape and the key's. -/
theorem hostOps0_eq : (hostOps0 : List (HloOp τ sig (Elt F)))
    = StableHlo.reshape main_arg0 main_v0 (rfl : (.f32 : EltTy) = .f32) shapeCasts_S32x1000000_S32000x1000 :: keyOps := rfl

end Cert.KernelIdeal.Key

namespace Cert.ReferenceIdeal.Run

open Idealize.ShloMosaic Idealize.ShloMosaic.StableHlo Idealize.ShloMosaic.TcCoe Idealize.SL.Sem
open Cert.ReferenceIdeal Cert.ReferenceIdeal.Facts₀ Cert.Follow

variable {F : FTy → Type} [FloatOps F]

/-- The reference's operations for the softmax. -/
abbrev softOps : List (HloOp τ sig (Elt F)) :=
  [ nullary main_cst (constant S_ .f32 0xFF800000#32),
    binary main_arg0 main_cst main_v0 ((fun x v => Host.reduce FloatOps.maximumf x v reducesTo_S32x1000000_S32_d1 h_S_) : (⟨S32x1000000, .f32⟩ : BufTy).Contents (Elt F) → (⟨S_, .f32⟩ : BufTy).Contents (Elt F) → (⟨S32, .f32⟩ : BufTy).Contents (Elt F)),
    nullary main_cst_0 (constant S_ .f32 0xFF800000#32),
    unary main_cst_0 main_v1 (broadcastInDim S32 ![] bcast_S_S32 : (⟨S_, .f32⟩ : BufTy).Contents (Elt F) → (⟨S32, .f32⟩ : BufTy).Contents (Elt F)),
    binary main_v1 main_v0 main_v2 (maximumf : (⟨S32, .f32⟩ : BufTy).Contents (Elt F) → (⟨S32, .f32⟩ : BufTy).Contents (Elt F) → (⟨S32, .f32⟩ : BufTy).Contents (Elt F)),
    unary main_v2 main_v3 (broadcastInDim S32x1 ![0] bcast_S32_S32x1_0 : (⟨S32, .f32⟩ : BufTy).Contents (Elt F) → (⟨S32x1, .f32⟩ : BufTy).Contents (Elt F)),
    unary main_v3 main_v4 (broadcastInDim S32x1000000 ![0, 1] bcast_S32x1_S32x1000000_0_1 : (⟨S32x1, .f32⟩ : BufTy).Contents (Elt F) → (⟨S32x1000000, .f32⟩ : BufTy).Contents (Elt F)),
    binary main_arg0 main_v4 main_v5 (subf : (⟨S32x1000000, .f32⟩ : BufTy).Contents (Elt F) → (⟨S32x1000000, .f32⟩ : BufTy).Contents (Elt F) → (⟨S32x1000000, .f32⟩ : BufTy).Contents (Elt F)),
    unary main_v5 main_v6 (Host.exp : (⟨S32x1000000, .f32⟩ : BufTy).Contents (Elt F) → (⟨S32x1000000, .f32⟩ : BufTy).Contents (Elt F)),
    nullary main_cst_1 (constant S_ .f32 0x00000000#32),
    binary main_v6 main_cst_1 main_v7 ((fun x v => Host.reduceAdd x v reducesTo_S32x1000000_S32_d1 h_S_) : (⟨S32x1000000, .f32⟩ : BufTy).Contents (Elt F) → (⟨S_, .f32⟩ : BufTy).Contents (Elt F) → (⟨S32, .f32⟩ : BufTy).Contents (Elt F)),
    unary main_v7 main_v8 (broadcastInDim S32x1 ![0] bcast_S32_S32x1_0 : (⟨S32, .f32⟩ : BufTy).Contents (Elt F) → (⟨S32x1, .f32⟩ : BufTy).Contents (Elt F)),
    unary main_v8 main_v9 (broadcastInDim S32x1000000 ![0, 1] bcast_S32x1_S32x1000000_0_1 : (⟨S32x1, .f32⟩ : BufTy).Contents (Elt F) → (⟨S32x1000000, .f32⟩ : BufTy).Contents (Elt F)),
    binary main_v6 main_v9 main_v10 (Host.divf : (⟨S32x1000000, .f32⟩ : BufTy).Contents (Elt F) → (⟨S32x1000000, .f32⟩ : BufTy).Contents (Elt F) → (⟨S32x1000000, .f32⟩ : BufTy).Contents (Elt F)) ]

/-- The reference's operations that make the key. -/
abbrev keyOps : List (HloOp τ sig (Elt F)) :=
  [ TRef.nullary (.of main_c : TRef sig ⟨S_, .i32⟩) (constantI S_ 32 1#32),
    TRef.nullary (.of main_c_2 : TRef sig ⟨S_, .i32⟩) (constantI S_ 32 32#32),
    TRef.binary (.of main_c : TRef sig ⟨S_, .i32⟩) (.of main_c_2 : TRef sig ⟨S_, .i32⟩) (.of main_v11 : TRef sig ⟨S_, .i32⟩) Host.shrui,
    TRef.unary (.of main_v11 : TRef sig ⟨S_, .i32⟩) (.of main_v12 : TRef sig ⟨S_, .i32⟩) id,
    TRef.unary (.of main_v12 : TRef sig ⟨S_, .i32⟩) (.of main_v13 : TRef sig ⟨S1, .i32⟩) (broadcastInDim S1 ![] bcast_S_S1),
    TRef.nullary (.of main_c_3 : TRef sig ⟨S_, .i32⟩) (constantI S_ 32 4294967295#32),
    TRef.binary (.of main_c : TRef sig ⟨S_, .i32⟩) (.of main_c_3 : TRef sig ⟨S_, .i32⟩) (.of main_v14 : TRef sig ⟨S_, .i32⟩) andi,
    TRef.unary (.of main_v14 : TRef sig ⟨S_, .i32⟩) (.of main_v15 : TRef sig ⟨S_, .i32⟩) id,
    TRef.unary (.of main_v15 : TRef sig ⟨S_, .i32⟩) (.of main_v16 : TRef sig ⟨S1, .i32⟩) (broadcastInDim S1 ![] bcast_S_S1),
    TRef.binary (.of main_v13 : TRef sig ⟨S1, .i32⟩) (.of main_v16 : TRef sig ⟨S1, .i32⟩) (.of main_v17 : TRef sig ⟨S2, .i32⟩)
      (fun a b => concatenate S2 0 [⟨S1, a⟩, ⟨S1, b⟩] concatenates_S1_S1_S2_d0) ]

/-- The reference's operations after the noise: the scores and their index of the maximum. -/
abbrev tailOps : List (HloOp τ sig (Elt F)) :=
  [ binary main_v10 main_v18 main_v19 (Host.divf : (⟨S32x1000000, .f32⟩ : BufTy).Contents (Elt F) → (⟨S32x1000000, .f32⟩ : BufTy).Contents (Elt F) → (⟨S32x1000000, .f32⟩ : BufTy).Contents (Elt F)),
    nullary main_call1_v0 (iotaInDim S32x1000000 32 1 : (⟨S32x1000000, .i32⟩ : BufTy).Contents (Elt F)),
    nullary main_call1_cst (constant S_ .f32 0xFF800000#32),
    nullary main_call1_c (constantI S_ 32 0#32),
    quaternary main_v19 main_call1_v0 main_call1_cst main_call1_c main_call1_v1_0 ((fun x y u v j => (Host.argReduce reducer_argmax_f32_i32 x y u v reducesTo_S32x1000000_S32_d1 h_S_ j).1) : (⟨S32x1000000, .f32⟩ : BufTy).Contents (Elt F) → (⟨S32x1000000, .i32⟩ : BufTy).Contents (Elt F) → (⟨S_, .f32⟩ : BufTy).Contents (Elt F) → (⟨S_, .i32⟩ : BufTy).Contents (Elt F) → (⟨S32, .f32⟩ : BufTy).Contents (Elt F)),
    quaternary main_v19 main_call1_v0 main_call1_cst main_call1_c main_v20 ((fun x y u v j => (Host.argReduce reducer_argmax_f32_i32 x y u v reducesTo_S32x1000000_S32_d1 h_S_ j).2) : (⟨S32x1000000, .f32⟩ : BufTy).Contents (Elt F) → (⟨S32x1000000, .i32⟩ : BufTy).Contents (Elt F) → (⟨S_, .f32⟩ : BufTy).Contents (Elt F) → (⟨S_, .i32⟩ : BufTy).Contents (Elt F) → (⟨S32, .i32⟩ : BufTy).Contents (Elt F)) ]

/-- The reference is the softmax, the key, the noise, then the index of the maximum. -/
theorem main_split (c : Dev nD) : main (F := F) c
    = (seq softOps >>= fun _ => seq keyOps >>= fun _ => fn_exponential.body (.of main_v17) main_call0 >>= fun _ => seq tailOps) := by
  unfold main fn_argmax.body
  simp only [seq, bind_assoc, pure_bind]
  rfl

/-- The two programs make the same key in step. -/
theorem key_follows : Follows 13 2 2 12 (Cert.KernelIdeal.Key.keyOps (F := F))
    (seq keyOps : Prog (TpuEff nD τ sig (Elt F) (Pipeline.Sig Λ₀ (Fin 0) fun p => (pcfgs (F := F) p).Adm) .tc) PUnit) := by
  refine Follows.nullary _ _ _ _ rfl ⟨rfl, rfl⟩ ⟨rfl, rfl⟩ ?_
  refine Follows.nullary _ _ _ _ rfl ⟨rfl, rfl⟩ ⟨rfl, rfl⟩ ?_
  refine Follows.binary _ _ _ _ _ _ _ _ rfl ⟨_, by decide, by decide, ⟨rfl, rfl⟩, ⟨rfl, rfl⟩⟩
    ⟨_, by decide, by decide, ⟨rfl, rfl⟩, ⟨rfl, rfl⟩⟩ ⟨rfl, rfl⟩ ⟨rfl, rfl⟩ ?_
  refine Follows.unary _ _ _ _ _ _ rfl ⟨_, by decide, by decide, ⟨rfl, rfl⟩, ⟨rfl, rfl⟩⟩ ⟨rfl, rfl⟩ ⟨rfl, rfl⟩ ?_
  refine Follows.unary _ _ _ _ _ _ rfl ⟨_, by decide, by decide, ⟨rfl, rfl⟩, ⟨rfl, rfl⟩⟩ ⟨rfl, rfl⟩ ⟨rfl, rfl⟩ ?_
  refine Follows.nullary _ _ _ _ rfl ⟨rfl, rfl⟩ ⟨rfl, rfl⟩ ?_
  refine Follows.binary _ _ _ _ _ _ _ _ rfl ⟨_, by decide, by decide, ⟨rfl, rfl⟩, ⟨rfl, rfl⟩⟩
    ⟨_, by decide, by decide, ⟨rfl, rfl⟩, ⟨rfl, rfl⟩⟩ ⟨rfl, rfl⟩ ⟨rfl, rfl⟩ ?_
  refine Follows.unary _ _ _ _ _ _ rfl ⟨_, by decide, by decide, ⟨rfl, rfl⟩, ⟨rfl, rfl⟩⟩ ⟨rfl, rfl⟩ ⟨rfl, rfl⟩ ?_
  refine Follows.unary _ _ _ _ _ _ rfl ⟨_, by decide, by decide, ⟨rfl, rfl⟩, ⟨rfl, rfl⟩⟩ ⟨rfl, rfl⟩ ⟨rfl, rfl⟩ ?_
  refine Follows.binary _ _ _ _ _ _ _ _ rfl ⟨_, by decide, by decide, ⟨rfl, rfl⟩, ⟨rfl, rfl⟩⟩
    ⟨_, by decide, by decide, ⟨rfl, rfl⟩, ⟨rfl, rfl⟩⟩ ⟨rfl, rfl⟩ ⟨rfl, rfl⟩ ?_
  exact Follows.ret 13 2 12

/-- Key and noise together, in step. -/
theorem noise_follows : Follows 13 2 2 279 (Cert.KernelIdeal.Key.keyOps (F := F) ++ Cert.KernelIdeal.Gen.hostOps0_1)
    (seq keyOps >>= fun _ => fn_exponential.body (F := F) (.of main_v17) main_call0) :=
  key_follows.append exponential_follows

/-- The softmax of the logits, as the reference computes it. -/
def softmax (x : S32x1000000.Idx → F .f32) : S32x1000000.Idx → F .f32 :=
  let mx : S32.Idx → F .f32 := maximumf (broadcastInDim S32 ![] bcast_S_S32 (constant S_ .f32 0xFF800000#32))
    (Host.reduce FloatOps.maximumf x (constant S_ .f32 0xFF800000#32) reducesTo_S32x1000000_S32_d1 h_S_)
  let e : S32x1000000.Idx → F .f32 := Host.exp (subf x (broadcastInDim S32x1000000 ![0, 1] bcast_S32x1_S32x1000000_0_1
    (broadcastInDim S32x1 ![0] bcast_S32_S32x1_0 mx)))
  Host.divf e (broadcastInDim S32x1000000 ![0, 1] bcast_S32x1_S32x1000000_0_1 (broadcastInDim S32x1 ![0] bcast_S32_S32x1_0
    (Host.reduceAdd e (constant S_ .f32 0x00000000#32) reducesTo_S32x1000000_S32_d1 h_S_)))

/-- The index of the largest score of a row, as the reference computes it. -/
def argmax (r : S32x1000000.Idx → F .f32) : S32.Idx → BitVec 32 := fun j =>
  (Host.argReduce reducer_argmax_f32_i32 r (iotaInDim S32x1000000 32 1) (constant S_ .f32 0xFF800000#32)
    (constantI S_ 32 0#32) reducesTo_S32x1000000_S32_d1 h_S_ j).2

/-- The softmax's operations leave it in their result buffer. -/
theorem soft_v10 (V : Valuation τ sig (Elt F)) : after softOps V (main_v10 : DevRef τ sig) = softmax (V (main_arg0 : DevRef τ sig)) := by
  after_results_simp
  rfl

/-- The softmax's operations leave the argument. -/
theorem soft_arg0 (V : Valuation τ sig (Elt F)) : after softOps V (main_arg0 : DevRef τ sig) = V (main_arg0 : DevRef τ sig) := by
  after_results_simp

/-- The last operations leave the index of the maximum of the scores. -/
theorem tail_v20 (V : Valuation τ sig (Elt F)) : after tailOps V (main_v20 : DevRef τ sig)
    = argmax (Host.divf (V (main_v10 : DevRef τ sig) : S32x1000000.Idx → F .f32) (V (main_v18 : DevRef τ sig))) := by
  after_results_simp
  rfl

/-- The last operations leave the softmax. -/
theorem tail_v10 (V : Valuation τ sig (Elt F)) : after tailOps V (main_v10 : DevRef τ sig) = V (main_v10 : DevRef τ sig) := by
  after_results_simp

/-- The last operations leave the argument. -/
theorem tail_arg0 (V : Valuation τ sig (Elt F)) : after tailOps V (main_arg0 : DevRef τ sig) = V (main_arg0 : DevRef τ sig) := by
  after_results_simp

/-- The softmax's operations touch the core's references. -/
theorem soft_sub : (softOps : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..⟩

/-- The last operations touch the core's references. -/
theorem tail_sub : (tailOps : List (HloOp τ sig (Elt F))).Forall fun op => op.bufs ⊆ tcRefs τ sig :=
  ⟨binary_bufs_sub .., nullary_bufs_sub .., nullary_bufs_sub .., nullary_bufs_sub .., quaternary_bufs_sub .., quaternary_bufs_sub ..⟩

/-- The softmax's operations determine their results. -/
theorem soft_fresh : (softOps : List (HloOp τ sig (Elt F))).Forall fun op => op.fresh = ∅ := forall_fresh_of_map rfl

/-- The last operations determine their results. -/
theorem tail_fresh : (tailOps : List (HloOp τ sig (Elt F))).Forall fun op => op.fresh = ∅ := forall_fresh_of_map rfl

/-- No buffer of the reference is scoped. -/
theorem scopedRefs_eq : (Finset.univ.filter fun b : Ref sig .tc => b.isScoped) = ∅ := by decide +kernel

/-- The reference has no semaphore. -/
theorem scopedSems_eq : (Finset.univ.filter fun sm : SemLoc sig => sm.isScoped .tc) = ∅ := by decide

/-- One line after another. -/
theorem after_append (l l' : List (HloOp τ sig (Elt F))) (V : Valuation τ sig (Elt F)) :
    after (l ++ l') V = after l' (after l V) := by
  induction l generalizing V with
  | nil => rfl
  | cons op l ih => exact ih _

/-- The reference's run: the softmax, the index of the maximum of the softmax divided by the noise, the argument
    unchanged, every semaphore at zero. The noise is what the kernel's host operations leave, from any contents `V`. -/
theorem run (m : (ℓ : Loc nD τ sig) → Buf (Elt F) ℓ) (ρ : Dev nD → PrngReg)
    (V : Dev nD → Valuation Cert.KernelIdeal.τ Cert.KernelIdeal.sig (Elt F)) :
    θ_run (defs (F := F)) (onTc (τ := τ) (main (F := F))) ⟨m, fun _ => 0, ρ⟩ fun r => (∀ c : Dev nD,
      r.2.mem ((c.tc : Thread nD τ).loc main_v10) = softmax (m ((c.tc : Thread nD τ).loc main_arg0))
      ∧ r.2.mem ((c.tc : Thread nD τ).loc main_v20)
          = argmax (Host.divf (softmax (m ((c.tc : Thread nD τ).loc main_arg0)))
              (after (Cert.KernelIdeal.Key.keyOps ++ Cert.KernelIdeal.Gen.hostOps0_1) (V c)
                (Proc.devRef .tc Cert.KernelIdeal.main_v8) : S32x1000000.Idx → F .f32))
      ∧ r.2.mem ((c.tc : Thread nD τ).loc main_arg0) = m ((c.tc : Thread nD τ).loc main_arg0))
      ∧ r.2.sem = fun _ => 0 := by
  obtain ⟨l, hl, hsub, hfresh, -, hag, hkeep⟩ := noise_follows (F := F)
  have hmain : ∀ d, main (F := F) d = seq (softOps ++ (l ++ tailOps)) := by
    intro d
    rw [seq_append, seq_append, ← hl, main_split]
    simp only [bind_assoc]
  have hS : (softOps ++ (l ++ tailOps) : List (HloOp τ sig (Elt F))).Forall fun op => op.bufs ⊆ tcRefs τ sig := by
    have h1 := soft_sub (F := F)
    have h2 := tail_sub (F := F)
    rw [List.forall_iff_forall_mem] at hsub h1 h2 ⊢
    intro op hop
    rcases List.mem_append.mp hop with h | h
    · exact h1 op h
    · exact (List.mem_append.mp h).elim (hsub op) (h2 op)
  have hF : ∀ op ∈ (softOps ++ (l ++ tailOps) : List (HloOp τ sig (Elt F))), op.fresh = ∅ := by
    have h1 := soft_fresh (F := F)
    have h2 := tail_fresh (F := F)
    rw [List.forall_iff_forall_mem] at h1 h2
    intro op hop
    rcases List.mem_append.mp hop with h | h
    · exact h1 op h
    · exact (List.mem_append.mp h).elim (hfresh op) (h2 op)
  have hrun := run_seq scopedRefs_eq scopedSems_eq (defs (F := F)) main (fun _ => softOps ++ (l ++ tailOps)) hmain
    (fun _ => hS) m ρ (fun _ => hF)
  refine (θ_run defs _ _).mono (fun r h => ⟨fun c => ?_, ?_⟩) hrun
  · have hv10 : after l (after softOps (launchContents m c)) (main_v10 : DevRef τ sig)
        = softmax (m ((c.tc : Thread nD τ).loc main_arg0)) := by
      rw [hkeep _ main_v10 fun i hi => Or.inl (by have : (14 : Nat) = i := hi.idx; omega), soft_v10]
    refine ⟨?_, ?_, ?_⟩
    · rw [h c, after_append, after_append, tail_v10, hv10]
    · rw [h c, after_append, after_append, tail_v20, hv10]
      have hq := hag (V c) (after softOps (launchContents m c)) (Agree.empty 13 2 _ _) ⟨S32x1000000, .f32⟩
        (.of Cert.KernelIdeal.main_v8) (.of main_v18) 278 (by decide) (by decide) ⟨rfl, rfl⟩ ⟨rfl, rfl⟩
      exact congrArg (fun q => argmax (Host.divf (softmax (m ((c.tc : Thread nD τ).loc main_arg0))) q)) hq.symm
    · rw [h c, after_append, after_append, tail_arg0,
        hkeep _ main_arg0 fun i hi => Or.inl (by have : (0 : Nat) = i := hi.idx; omega), soft_arg0]
  · funext g
    rcases g with ⟨t, s | s⟩
    · exact s.elim0
    · exact s.elim0

end Cert.ReferenceIdeal.Run

end
-- ==== Proof.Kernel.Entry.lean ====
/- What the kernel's two input arrays hold when its region begins: the logits and the noise, each laid out in rows of a
   thousand. -/
module

public import proofs.«01_k».proof.Proof.Noise.Reference
public import proofs.«01_k».proof.Proof.Gen.KernelIdeal.Frame

@[expose] public section

set_option maxRecDepth 8000

noncomputable section

namespace Cert.KernelIdeal.Entry

open Idealize.ShloMosaic Idealize.ShloMosaic.StableHlo Idealize.ShloMosaic.TcCoe Idealize.SL.Sem
open Cert.KernelIdeal Cert.KernelIdeal.Gen

variable {F : FTy → Type} [FloatOps F]
variable (m : (ℓ : Loc nD τ sig) → Buf (Elt F) ℓ)

/-- A core's buffers once the logits are laid out in rows of a thousand. -/
def laid (c : Dev nD) : Valuation τ sig (Elt F) :=
  (StableHlo.reshape main_arg0 main_v0 (rfl : (.f32 : EltTy) = .f32) shapeCasts_S32x1000000_S32000x1000).result (fun b => m (c, b))

/-- The noise that the kernel's host operations draw. -/
def noise (c : Dev nD) : S32x1000000.Idx → F .f32 :=
  after (Key.keyOps ++ hostOps0_1) (laid m c) (Proc.devRef .tc main_v8)

/-- The buffers that the key's and the noise's operations write, in order. -/
def drawn : List (Ref sig .tc) :=
  List.ofFn fun i : Fin 277 => (⟨.hbm, ⟨i.val + 2, lt_of_lt_of_le (by omega : i.val + 2 < 279) (by decide)⟩, rfl⟩ : Ref sig .tc)

/-- The logits' rows are not among them. -/
theorem v0_not_drawn : main_v0 ∉ drawn := by
  intro h
  obtain ⟨i, hi⟩ := (List.mem_ofFn' _ _).mp h
  have h1 : (1 : Nat) = i.val + 2 := by
    have := congrArg (fun r : Ref sig .tc => r.idx.val) hi
    exact this.symm
  omega

/-- The key's and the noise's operations leave the logits' rows alone. -/
theorem draw_keeps (X : Valuation τ sig (Elt F)) :
    after (Key.keyOps ++ hostOps0_1) X (Proc.devRef .tc main_v0) = X (Proc.devRef .tc main_v0) :=
  after_of_writes_sub (W := drawn) _ X (forall_writes_sub_of_map rfl) v0_not_drawn

/-- One line after another. -/
theorem after_append (l l' : List (HloOp τ sig (Elt F))) (X : Valuation τ sig (Elt F)) :
    after (l ++ l') X = after l' (after l X) := by
  induction l generalizing X with
  | nil => rfl
  | cons op l ih => exact ih _

/-- The host operations before the region, one group after the other. -/
theorem V0_eq (c : Dev nD) : V0 m c = (StableHlo.reshape main_v8 main_v9 (rfl : (.f32 : EltTy) = .f32) shapeCasts_S32x1000000_S32000x1000).result
    (after (Key.keyOps ++ hostOps0_1) (laid m c)) := by
  unfold V0
  rw [show (List.flatten [hostOps0, hostOps0_1, hostOps0_2] : List (HloOp τ sig (Elt F)))
    = (StableHlo.reshape main_arg0 main_v0 (rfl : (.f32 : EltTy) = .f32) shapeCasts_S32x1000000_S32000x1000 :: (Key.keyOps ++ hostOps0_1)) ++ hostOps0_2 by
      rw [Key.hostOps0_eq]
      simp only [List.flatten_cons, List.flatten_nil, List.append_nil, List.cons_append, List.append_assoc]]
  rw [after_append, after_cons]
  rfl

/-- The region finds the logits in rows of a thousand. -/
theorem V_main_v0 (c : Dev nD) : V m c main_v0
    = shapeCast S32000x1000 (m ((c.tc : Thread nD τ).loc main_arg0)) shapeCasts_S32x1000000_S32000x1000 := by
  show V0 m c (Proc.devRef .tc main_v0) = _
  rw [V0_eq, result_of_writes_ne _ _ main_v9 main_v0 rfl (by decide), draw_keeps]
  unfold laid
  rw [reshape_result]
  rfl

/-- The region finds the noise in rows of a thousand. -/
theorem V_main_v9 (c : Dev nD) : V m c main_v9 = shapeCast S32000x1000 (noise m c) shapeCasts_S32x1000000_S32000x1000 := by
  show V0 m c (Proc.devRef .tc main_v9) = _
  rw [V0_eq, reshape_result]
  rfl

end Cert.KernelIdeal.Entry
-- ==== Proof.Kernel.Blocks.lean ====
/- The kernel's two result arrays, a block at a time: block `t` is what the body makes of block `t` of the logits and of
   the noise. -/
module

public import proofs.«01_k».proof.Proof.Gen.KernelIdeal.Run
public import Idealize.ShloMosaic.Lib.Pipeline.Value
public import Idealize.ShloMosaic.Lib.Pointwise

@[expose] public section

set_option maxRecDepth 8000

noncomputable section

namespace Cert.KernelIdeal.Blocks

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The row of the tall array that is row `a` of block `t`. -/
def row (t : Fin 32) (a : Fin 1000) : Fin 32000 := ⟨t.val * 1000 + a.val, by omega⟩

/-- The point of the grid that handles block `t`. -/
def pt (t : Fin 32) : Fin cfg0.N := ⟨t.val, lt_of_lt_of_le t.isLt (by decide : 32 ≤ grid0.N)⟩

/-- Where the blocks lie: block `t` in the `t`-th place. -/
theorem places : ∀ t : Fin 32,
    (win0_0.index (pt t) 0 = t.val ∧ win0_0.index (pt t) 1 = 0) ∧ (win0_1.index (pt t) 0 = t.val ∧ win0_1.index (pt t) 1 = 0)
    ∧ (win0_2.index (pt t) 0 = t.val ∧ win0_2.index (pt t) 1 = 0)
    ∧ (win0_3.index (pt t) 0 = t.val ∧ win0_3.index (pt t) 1 = 0 ∧ win0_3.index (pt t) 2 = 0) := by
  decide +kernel

/-- Every block of the two results is written back. -/
theorem flushes : ∀ t : Fin 32, (cfg0.win 2).flush (pt t) = true ∧ (cfg0.win 3).flush (pt t) = true := by
  decide +kernel

/-- Element `(a, b)` of block `t` of the logits is at row `1000 t + a`. -/
theorem emb0 (t : Fin 32) (a b : Fin 1000) :
    ((cfg0.win 0).blk (pt t)).view.emb (ix2 a b : S1000x1000.Idx) = (ix2 (row t a) b : S32000x1000.Idx) := by
  refine Shape.idx_ext₂ ?_ ?_
  · refine (Pipeline.Window.rect_emb_val win0_0 (pt t) (ix2 a b : S1000x1000.Idx) 0).trans ?_
    rw [(places t).1.1]; rfl
  · refine (Pipeline.Window.rect_emb_val win0_0 (pt t) (ix2 a b : S1000x1000.Idx) 1).trans ?_
    rw [(places t).1.2]; exact (Nat.zero_mul _).symm ▸ Nat.zero_add _

/-- Element `(a, b)` of block `t` of the noise is at row `1000 t + a`. -/
theorem emb1 (t : Fin 32) (a b : Fin 1000) :
    ((cfg0.win 1).blk (pt t)).view.emb (ix2 a b : S1000x1000.Idx) = (ix2 (row t a) b : S32000x1000.Idx) := by
  refine Shape.idx_ext₂ ?_ ?_
  · refine (Pipeline.Window.rect_emb_val win0_1 (pt t) (ix2 a b : S1000x1000.Idx) 0).trans ?_
    rw [(places t).2.1.1]; rfl
  · refine (Pipeline.Window.rect_emb_val win0_1 (pt t) (ix2 a b : S1000x1000.Idx) 1).trans ?_
    rw [(places t).2.1.2]; exact (Nat.zero_mul _).symm ▸ Nat.zero_add _

/-- Element `(a, b)` of block `t` of the probabilities is at row `1000 t + a`. -/
theorem emb2 (t : Fin 32) (a b : Fin 1000) :
    ((cfg0.win 2).blk (pt t)).view.emb (ix2 a b : S1000x1000.Idx) = (ix2 (row t a) b : S32000x1000.Idx) := by
  refine Shape.idx_ext₂ ?_ ?_
  · refine (Pipeline.Window.rect_emb_val win0_2 (pt t) (ix2 a b : S1000x1000.Idx) 0).trans ?_
    rw [(places t).2.2.1.1]; rfl
  · refine (Pipeline.Window.rect_emb_val win0_2 (pt t) (ix2 a b : S1000x1000.Idx) 1).trans ?_
    rw [(places t).2.2.1.2]; exact (Nat.zero_mul _).symm ▸ Nat.zero_add _

/-- Lane `l` of block `t` of the indices is lane `l` of row `t`. -/
theorem emb3 (t : Fin 32) (l : Fin 128) :
    ((cfg0.win 3).blk (pt t)).view.emb (ix3 0 0 l : S1x1x128.Idx) = (ix3 t 0 l : S32x1x128.Idx) := by
  funext x
  refine Fin.ext ((Pipeline.Window.rect_emb_val win0_3 (pt t) (ix3 0 0 l : S1x1x128.Idx) x).trans ?_)
  match x with
  | ⟨0, _⟩ =>
    refine (congrArg (fun n => n * 1 + 0) (places t).2.2.2.1).trans ?_
    show t.val * 1 + 0 = t.val
    omega
  | ⟨1, _⟩ =>
    refine (congrArg (fun n => n * 1 + 0) (places t).2.2.2.2.1).trans ?_
    rfl
  | ⟨2, _⟩ =>
    refine (congrArg (fun n => n * 128 + l.val) (places t).2.2.2.2.2).trans ?_
    show 0 * 128 + l.val = l.val
    omega

/-- Block `t` of the logits at an element. -/
theorem iblk0_apply (c : Dev nD) (t : Fin 32) (a b : Fin 1000) :
    (iblk m c 0 (pt t) : S1000x1000.Idx → F .f32) (ix2 a b) = (V m c main_v0 : S32000x1000.Idx → F .f32) (ix2 (row t a) b) := by
  have h := congrArg (V m c main_v0 : S32000x1000.Idx → F .f32) (emb0 t a b)
  exact h

/-- Block `t` of the noise at an element. -/
theorem iblk1_apply (c : Dev nD) (t : Fin 32) (a b : Fin 1000) :
    (iblk m c 1 (pt t) : S1000x1000.Idx → F .f32) (ix2 a b) = (V m c main_v9 : S32000x1000.Idx → F .f32) (ix2 (row t a) b) := by
  have h := congrArg (V m c main_v9 : S32000x1000.Idx → F .f32) (emb1 t a b)
  exact h

/-- Different points write different blocks of the probabilities. -/
theorem apart2 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h =>
    hne ((by decide +kernel : ∀ t t' : Fin grid0.N, win0_2.index t = win0_2.index t' → t = t') t t' h)

/-- Different points write different blocks of the indices. -/
theorem apart3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h =>
    hne ((by decide +kernel : ∀ t t' : Fin grid0.N, win0_3.index t = win0_3.index t' → t = t') t t' h)

/-- What the body leaves in the block of the probabilities. -/
theorem out2_eq (x0 x1 : Vec F S1000x1000 .f32) : out0_2 x0 x1 = k0_pay1 x0 := by
  have hz : (![0, 0] : Fin 2 → Nat) = fun _ => 0 := by decide
  unfold out0_2
  rw [View.canon_unit_zero hz, View.ld_unit_zero hz]

/-- What the body leaves in the block of the indices. -/
theorem out3_eq (x0 x1 : Vec F S1000x1000 .f32) : out0_3 x0 x1 = k0_pay2 x0 x1 := by
  have hz : (![0, 0] : Fin 2 → Nat) = fun _ => 0 := by decide
  have hz3 : (![0, 0, 0] : Fin 3 → Nat) = fun _ => 0 := by decide
  unfold out0_3
  rw [View.canon_unit_zero hz3, View.ld_unit_zero hz, View.ld_unit_zero hz]

/-- The probabilities' array at an element of block `t`. -/
theorem probs_apply (c : Dev nD) (t : Fin 32) (a b : Fin 1000) :
    (Value.reg_main_v10_0 m c : S32000x1000.Idx → F .f32) (ix2 (row t a) b) = k0_pay1 (iblk m c 0 (pt t)) (ix2 a b) := by
  have h := (dats m 0 c).arrAt_emb_eq_flushed 2 apart2 (pt t) (flushes t).1 (ix2 a b : S1000x1000.Idx)
  rw [emb2] at h
  refine h.trans ?_
  show (dats m 0 c).after 2 (pt t) (ix2 a b : S1000x1000.Idx) = _
  rw [after0_2, out2_eq]

/-- The indices' array at a lane of block `t`. -/
theorem index_apply (c : Dev nD) (t : Fin 32) (l : Fin 128) :
    (Value.reg_main_v10_1 m c : S32x1x128.Idx → BitVec 32) (ix3 t 0 l) = k0_pay2 (iblk m c 0 (pt t)) (iblk m c 1 (pt t)) (ix3 0 0 l) := by
  have h := (dats m 0 c).arrAt_emb_eq_flushed 3 apart3 (pt t) (flushes t).2 (ix3 0 0 l : S1x1x128.Idx)
  rw [emb3] at h
  refine h.trans ?_
  show (dats m 0 c).after 3 (pt t) (ix3 0 0 l : S1x1x128.Idx) = _
  rw [after0_3, out3_eq]

end Cert.KernelIdeal.Blocks
-- ==== Proof.Math.Pick.lean ====
/- The softmax of a row and the first place of a row's greatest value, over the extended reals; and when a fold ends at
   the one value that beats all the others. -/
module

public import Idealize.ShloMosaic.Lib.Pointwise
public import Idealize.ShloMosaic.Lib.IdealHost
public import Idealize.ShloMosaic.PureOps.Ideal.Laws

@[expose] public section

noncomputable section

namespace Cert.Pick

open Idealize.ShloMosaic

/-- The softmax of a row: each exponential of the distance from the greatest value, over their sum. -/
def soft {n : Nat} (y : Fin n → EReal) (k : Fin n) : EReal :=
  Ideal.div (Ideal.exp (y k - ⨆ j, y j)) (∑ j, Ideal.exp (y j - ⨆ j, y j))

/-- Place `k` is the first of those that hold the row's greatest value. -/
structure First {n : Nat} (y : Fin n → EReal) (k : Fin n) : Prop where
  le : ∀ j, y j ≤ y k
  least : ∀ j, y j = y k → k ≤ j

/-- A row that is not empty has such a place. -/
theorem exists_first {n : Nat} (hn : 0 < n) (y : Fin n → EReal) : ∃ k, First y k := by
  haveI : Nonempty (Fin n) := ⟨⟨0, hn⟩⟩
  obtain ⟨k0, hk0⟩ := Finite.exists_max y
  have hne : (Finset.univ.filter fun j => y j = y k0).Nonempty := ⟨k0, by simp⟩
  have hm := Finset.min'_mem _ hne
  refine ⟨(Finset.univ.filter fun j => y j = y k0).min' hne, ?_, ?_⟩
  · intro j
    rw [(Finset.mem_filter.mp hm).2]
    exact hk0 j
  · intro j hj
    refine Finset.min'_le _ _ (Finset.mem_filter.mpr ⟨Finset.mem_univ _, ?_⟩)
    rw [hj, (Finset.mem_filter.mp hm).2]

/-- The row's greatest value is the one at that place. -/
theorem First.iSup_eq {n : Nat} {y : Fin n → EReal} {k : Fin n} (h : First y k) : (⨆ j, y j) = y k :=
  le_antisymm (iSup_le h.le) (le_iSup y k)

/-- An operation that always returns one of its two arguments, and returns `p` against everything that `p` beats, folds
    to `p` over values that `p` beats and among which it is. -/
theorem foldl_eq {α : Type} (f : α → α → α) (p : α) (R : α → Prop) (hsel : ∀ a b, f a b = a ∨ f a b = b)
    (hl : ∀ a, R a → f p a = p) (hr : ∀ a, R a → f a p = p) :
    ∀ (l : List α) (r : α), R r → (∀ x ∈ l, R x) → (r = p ∨ p ∈ l) → l.foldl f r = p
  | [], r, _, _, h => h.resolve_right (List.not_mem_nil)
  | b :: l, r, hrr, hx, h => by
    rw [List.foldl_cons]
    have hb : R b := hx b List.mem_cons_self
    refine foldl_eq f p R hsel hl hr l _ ?_ (fun x hxl => hx x (List.mem_cons_of_mem _ hxl)) ?_
    · rcases hsel r b with h' | h' <;> rw [h'] <;> assumption
    · rcases h with rfl | h
      · exact Or.inl (hl b hb)
      · rcases List.mem_cons.mp h with rfl | h
        · exact Or.inl (hr r hrr)
        · exact Or.inr h

/-- The number of a place, as a signed word, below half the words. -/
theorem toInt_ofNat {n : Nat} (h : n < 2 ^ 31) : (BitVec.ofNat 32 n).toInt = n := by
  have hn : (BitVec.ofNat 32 n).toNat = n := by
    rw [BitVec.toNat_ofNat]; exact Nat.mod_eq_of_lt (by omega)
  rw [BitVec.toInt_eq_toNat_of_lt (by omega), hn]

/-- The lesser of two signed words is one of them. -/
theorem minsi_sel (a b : BitVec 32) : IntOp.minsi a b = a ∨ IntOp.minsi a b = b := by
  unfold IntOp.minsi
  split
  · exact Or.inl rfl
  · exact Or.inr rfl

/-- Against a word that is no less, on the left. -/
theorem minsi_left {p a : BitVec 32} (h : p.toInt ≤ a.toInt) : IntOp.minsi p a = p := by
  unfold IntOp.minsi
  split
  · rfl
  · next hn =>
    rw [BitVec.slt_iff_toInt_lt] at hn
    exact BitVec.eq_of_toInt_eq (by omega)

/-- Against a word that is no less, on the right. -/
theorem minsi_right {p a : BitVec 32} (h : p.toInt ≤ a.toInt) : IntOp.minsi a p = p := by
  unfold IntOp.minsi
  split
  · next hn =>
    rw [BitVec.slt_iff_toInt_lt] at hn
    exact BitVec.eq_of_toInt_eq (by omega)
  · rfl

end Cert.Pick
-- ==== Proof.Math.Body.lean ====
/- What the kernel's body computes from a block of the logits and a block of the noise, over the extended reals: the
   softmax of the block's million values, and the first place of the greatest score. -/
module

public import proofs.«01_k».proof.Proof.Gen.KernelIdeal.Skeleton
public import proofs.«01_k».proof.Proof.Math.Pick

@[expose] public section

set_option maxRecDepth 8000

noncomputable section

namespace Cert.KernelIdeal.Body

open Idealize.ShloMosaic
open Cert.KernelIdeal Cert.KernelIdeal.Gen Cert.Pick

/-- The block's row of place `k` in row-major order. -/
def hi (k : Fin 1000000) : Fin 1000 := ⟨k.val / 1000, by omega⟩

/-- The block's column of place `k` in row-major order. -/
def lo (k : Fin 1000000) : Fin 1000 := ⟨k.val % 1000, by omega⟩

/-- The place of row `a` and column `b`. -/
def at' (a b : Fin 1000) : Fin 1000000 := ⟨a.val * 1000 + b.val, by omega⟩

theorem hi_at (a b : Fin 1000) : hi (at' a b) = a := Fin.ext (by show (a.val * 1000 + b.val) / 1000 = a.val; omega)
theorem lo_at (a b : Fin 1000) : lo (at' a b) = b := Fin.ext (by show (a.val * 1000 + b.val) % 1000 = b.val; omega)
theorem at_hi_lo (k : Fin 1000000) : at' (hi k) (lo k) = k := Fin.ext (by show k.val / 1000 * 1000 + k.val % 1000 = k.val; omega)

/-- The places of a block under a leading unit axis. -/
def places : Fin 1000000 ≃ S1x1000x1000.Idx where
  toFun k := ix3 0 (hi k) (lo k)
  invFun i := at' (i 1) (i 2)
  left_inv k := at_hi_lo k
  right_inv i := by
    obtain ⟨z, a, b, rfl⟩ : ∃ (z : Fin 1) (a b : Fin 1000), i = ix3 z a b := ⟨i 0, i 1, i 2, eq_ix3 i⟩
    obtain rfl : z = 0 := Subsingleton.elim _ _
    exact congrArg₂ (ix3 0) (hi_at a b) (lo_at a b)

/-- A block as one row of a million. -/
def flat {α : Type} (v : S1000x1000.Idx → α) (k : Fin 1000000) : α := v (ix2 (hi k) (lo k))

/-- A block put under a leading unit axis, at a place. -/
theorem cast_places {α : Type} (v : S1000x1000.Idx → α) (k : Fin 1000000) :
    shapeCast S1x1000x1000 v shapeCasts_S1000x1000_S1x1000x1000 (places k) = flat v k := by
  show shapeCast S1x1000x1000 v shapeCasts_S1000x1000_S1x1000x1000 (ix3 0 (hi k) (lo k)) = v (ix2 (hi k) (lo k))
  pointwise

/-- The pattern of minus infinity. -/
theorem ofBits_ninf : (FloatOps.ofBits .f32 0xFF800000#32 : Ideal .f32) = (⊥ : EReal) := by
  show Ideal.ofBits .f32 0xFF800000#32 = ⊥
  simp [Ideal.ofBits, Ideal.ieee]

/-- The body's maximum over a block. -/
def top (v : FVec Ideal S1000x1000 .f32) : Ideal .f32 :=
  extractAt ![0, 0, 0] (shapeCast S1x1x1 (multiReduction .maximumf [1, 2] S1
    (shapeCast S1x1000x1000 v shapeCasts_S1000x1000_S1x1000x1000) 0xFF800000#32 reduces_S1x1000x1000_S1 (.inl rfl) rfl)
    shapeCasts_S1_S1x1x1) inpos_S1x1x1_p0_0_0

/-- The body's sum over a block. -/
def total (v : FVec Ideal S1000x1000 .f32) : Ideal .f32 :=
  extractAt ![0, 0, 0] (shapeCast S1x1x1 (multiReduction .add [1, 2] S1
    (shapeCast S1x1000x1000 v shapeCasts_S1000x1000_S1x1000x1000) 0x00000000#32 reduces_S1x1000x1000_S1 (.inl rfl) rfl)
    shapeCasts_S1_S1x1x1) inpos_S1x1x1_p0_0_0

/-- The body's minimum over a block of words. -/
def bottom (w : IVec S1000x1000 32) : BitVec 32 :=
  extractAt ![0, 0, 0] (shapeCast S1x1x1 (multiReductionI .minsi [1, 2] S1
    (shapeCast S1x1000x1000 w shapeCasts_S1000x1000_S1x1000x1000) 2147483647#32 reduces_S1x1000x1000_S1 rfl)
    shapeCasts_S1_S1x1x1) inpos_S1x1x1_p0_0_0

/-- The number of each place of a block, as the body makes it. -/
def words : IVec S1000x1000 32 :=
  addi (muli (iota .tc S1000x1000 32 [0] iota_S1000x1000_d0_w32) (broadcast S1000x1000 1000#32))
    (iota .tc S1000x1000 32 [1] iota_S1000x1000_d1_w32)

/-- The probabilities' payload in these terms. -/
theorem pay1_eq (x : Vec Ideal S1000x1000 .f32) : k0_pay1 x =
    divf (exp (subf x (broadcast S1000x1000 (top x)))) (broadcast S1000x1000 (total (exp (subf x (broadcast S1000x1000 (top x)))))) := by
  unfold k0_pay1
  simp only [shapeCast_self]
  rfl

/-- The index's payload in these terms. -/
theorem pay2_eq (x q : Vec Ideal S1000x1000 .f32) : k0_pay2 x q = broadcast S1x1x128
    (bottom (select (cmpf .oeq (divf (k0_pay1 x) q) (broadcast S1000x1000 (top (divf (k0_pay1 x) q)))) words
      (broadcast S1000x1000 1073741824#32))) := by
  unfold k0_pay2
  simp only [shapeCast_self]
  rfl

/-- Every index of the block reduces to the one result. -/
theorem all_drop (j : S1.Idx) : (Finset.univ.filter fun i => reduces_S1x1000x1000_S1.drop i = j) = Finset.univ :=
  Finset.filter_true_of_mem fun i _ => funext fun b => Fin.ext (by
    have h1 : S1.size b = 1 := by revert b; decide
    have h2 := (reduces_S1x1000x1000_S1.drop i b).isLt
    have h3 := (j b).isLt
    omega)

/-- The one value of a one-element array, taken out of it. -/
theorem only {α : Type} (v : S1.Idx → α) (M : α) (h : ∀ j, v j = M) :
    extractAt ![0, 0, 0] (shapeCast S1x1x1 v shapeCasts_S1_S1x1x1) inpos_S1x1x1_p0_0_0 = M :=
  h _

/-- The greatest value of a block. -/
theorem top_eq (v : FVec Ideal S1000x1000 .f32) : top v = ⨆ k, flat v k := by
  refine only _ _ fun j => (multiReduction_maximumf_eq_fold _ _ reduces_S1x1000x1000_S1 _ _ j).trans ?_
  rw [all_drop, ofBits_ninf]
  refine Eq.trans (b := Finset.univ.sup (shapeCast S1x1000x1000 v shapeCasts_S1000x1000_S1x1000x1000 : S1x1000x1000.Idx → EReal)) rfl ?_
  rw [Finset.sup_univ_eq_iSup, ← places.iSup_comp]
  exact iSup_congr fun k => cast_places v k

/-- The sum of a block. -/
theorem total_eq (v : FVec Ideal S1000x1000 .f32) : total v = ∑ k, flat v k := by
  refine only _ _ fun j => (Ideal.reduceAdd_total reduces_S1x1000x1000_S1 (by decide) _ j).trans ?_
  rw [← places.sum_comp]
  exact Finset.sum_congr rfl fun k _ => cast_places v k

/-- The least of a block of words, when word `k` is it. -/
theorem bottom_eq (w : IVec S1000x1000 32) (k : Fin 1000000) (hk : ∀ j, (flat w k).toInt ≤ (flat w j).toInt) :
    bottom w = flat w k := by
  refine only _ _ fun j => (reduceFold_eq_foldl_of_size_one reduces_S1x1000x1000_S1 (by decide) IntOp.minsi _ _ j).trans ?_
  rw [← List.foldl_map (f := shapeCast S1x1000x1000 w shapeCasts_S1000x1000_S1x1000x1000) (g := IntOp.minsi)]
  refine foldl_eq IntOp.minsi (flat w k) (fun a => (flat w k).toInt ≤ a.toInt) minsi_sel (fun _ => minsi_left)
    (fun _ => minsi_right) _ _ ?_ ?_ (Or.inr ?_)
  · have h := BitVec.two_mul_toInt_lt (x := flat w k)
    have h2 : (2147483647#32 : BitVec 32).toInt = 2147483647 := by decide
    show (flat w k).toInt ≤ (2147483647#32 : BitVec 32).toInt
    omega
  · intro a ha
    obtain ⟨i, -, rfl⟩ := List.mem_map.mp ha
    rw [← places.apply_symm_apply i, cast_places]
    exact hk _
  · refine List.mem_map.mpr ⟨places k, List.mem_map.mpr ⟨S1x1000x1000.rowMajor (places k), List.mem_finRange _, ?_⟩, cast_places w k⟩
    exact Equiv.symm_apply_apply _ _

/-- The body's probabilities are the softmax of the block. -/
theorem pay1_flat (x : Vec Ideal S1000x1000 .f32) (k : Fin 1000000) :
    flat (k0_pay1 x) k = soft (flat x) k := by
  have he : ∀ (M : Ideal .f32), flat (exp (subf x (broadcast S1000x1000 M))) = fun j => Ideal.exp (flat x j - M) := fun M => rfl
  have hd : ∀ (v : FVec Ideal S1000x1000 .f32) (T : Ideal .f32), flat (divf v (broadcast S1000x1000 T)) k = Ideal.div (flat v k) T :=
    fun v T => rfl
  rw [pay1_eq, total_eq, top_eq, hd, he, soft]

/-- The number of a place, from its row and column. -/
theorem words_flat (k : Fin 1000000) : flat words k = BitVec.ofNat 32 k.val := by
  unfold flat words
  rw [addi_apply, muli_apply, iota_single_apply, iota_single_apply]
  show BitVec.ofNat 32 (k.val / 1000) * BitVec.ofNat 32 1000 + BitVec.ofNat 32 (k.val % 1000) = _
  rw [← BitVec.ofNat_mul, ← BitVec.ofNat_add]
  congr 1
  omega

/-- The body's index, in every lane: the first place of the greatest score. -/
theorem pay2_apply (x q : Vec Ideal S1000x1000 .f32) (k : Fin 1000000)
    (hk : First (fun k => Ideal.div (soft (flat x) k) (flat q k)) k) (l : S1x1x128.Idx) :
    k0_pay2 x q l = BitVec.ofNat 32 k.val := by
  have hr : flat (divf (k0_pay1 x) q) = fun k => Ideal.div (soft (flat x) k) (flat q k) :=
    funext fun k => congrArg (fun p => Ideal.div p (flat q k)) (pay1_flat x k)
  rw [pay2_eq, top_eq, hr, hk.iSup_eq]
  generalize hy : (fun k => Ideal.div (soft (flat x) k) (flat q k)) = y at hr hk
  rw [show Ideal.div (soft (flat x) k) (flat q k) = y k from congrFun hy k]
  have hw : ∀ j, flat (select (cmpf .oeq (divf (k0_pay1 x) q) (broadcast S1000x1000 (y k))) words (broadcast S1000x1000 1073741824#32)) j
      = if y j = y k then BitVec.ofNat 32 j.val else 1073741824#32 := by
    intro j
    rw [← words_flat j, ← congrFun hr j]
    show Scalar.select (Ideal.cmp .oeq (flat (divf (k0_pay1 x) q) j) (y k)) (flat words j) 1073741824#32 = _
    by_cases h : flat (divf (k0_pay1 x) q) j = y k
    · simp [Scalar.select, Ideal.cmp, h]
    · simp [Scalar.select, Ideal.cmp, h]
  have hwk := hw k
  rw [if_pos rfl] at hwk
  rw [show ∀ w : BitVec 32, broadcast S1x1x128 w l = w from fun _ => rfl, bottom_eq _ k, hwk]
  intro j
  rw [hw, hw, if_pos rfl, toInt_ofNat (by omega)]
  split
  · next h =>
    rw [toInt_ofNat (by omega)]
    exact_mod_cast hk.least j h
  · have h2 : (1073741824#32 : BitVec 32).toInt = 1073741824 := by decide
    rw [h2]
    omega

end Cert.KernelIdeal.Body
-- ==== Proof.Math.Rows.lean ====
/- The reference's softmax and arg-max, a row at a time over the extended reals. -/
module

public import proofs.«01_k».proof.Proof.Noise.Reference
public import proofs.«01_k».proof.Proof.Math.Body

@[expose] public section

set_option maxRecDepth 8000

noncomputable section

namespace Cert.ReferenceIdeal.Rows

open Idealize.ShloMosaic
open Cert.ReferenceIdeal Cert.ReferenceIdeal.Run Cert.Pick
open Cert.KernelIdeal.Body (ofBits_ninf)

/-- One value a row, spread over the row. -/
theorem spread {α : Type} (u : S32.Idx → α) (i : Fin 32) (k : Fin 1000000) :
    broadcastInDim S32x1000000 ![0, 1] Facts₀.bcast_S32x1_S32x1000000_0_1 (broadcastInDim S32x1 ![0] Facts₀.bcast_S32_S32x1_0 u) (ix2 i k)
      = u (ix1 i) := by
  pointwise

section Reductions

variable {n0 n1 : Nat} {u : Shape}

/-- The greatest value of a row, at any number and length of rows. -/
theorem max_row (h : (⟨2, ![n0, n1]⟩ : Shape).ReducesTo [1] ⟨1, ![n0]⟩) (hu : 0 < u.numel) (x : (⟨2, ![n0, n1]⟩ : Shape).Idx → EReal)
    (init : u.Idx → EReal) (hi : init (Shape.Idx.first hu) = ⊥) (i : Fin n0) :
    Host.reduce (FloatOps.maximumf (F := Ideal) (φ := .f32)) x init h hu (ix1 i) = ⨆ k, x (ix2 i k) := by
  refine (Host.reduce_eq_fold _ _ _ _ _ _).trans ?_
  refine (h.fold_fiber_r2_a1 (ix1 i) _ _ x).trans ?_
  rw [hi]
  refine Eq.trans (b := Finset.univ.sup fun k => x (ix2 i k)) rfl ?_
  rw [Finset.sup_univ_eq_iSup]

/-- The sum of a row, at any number and length of rows. -/
theorem sum_row (h : (⟨2, ![n0, n1]⟩ : Shape).ReducesTo [1] ⟨1, ![n0]⟩) (hu : 0 < u.numel) (x : (⟨2, ![n0, n1]⟩ : Shape).Idx → EReal)
    (init : u.Idx → EReal) (hi : init (Shape.Idx.first hu) = 0) (i : Fin n0) :
    Host.reduceAdd (F := Ideal) (φ := .f32) x init h hu (ix1 i) = ∑ k, x (ix2 i k) := by
  refine (Ideal.hostReduceAdd_r2_a1 h x _ (ix1 i)).trans ?_
  rw [hi, zero_add]
  rfl

/-- The pairs that the arg-max of a row folds over: the row's values with their places. -/
theorem fiber_row (h : (⟨2, ![n0, n1]⟩ : Shape).ReducesTo [1] ⟨1, ![n0]⟩) (x : (⟨2, ![n0, n1]⟩ : Shape).Idx → EReal) (i : Fin n0)
    (q : EReal × BitVec 32) : q ∈ Host.argReduceFiber x (iotaInDim (⟨2, ![n0, n1]⟩ : Shape) 32 1) h (ix1 i)
      ↔ ∃ j : Fin n1, q = (x (ix2 i j), BitVec.ofNat 32 j.val) := by
  unfold Host.argReduceFiber
  rw [List.mem_map]
  constructor
  · rintro ⟨n, hn, rfl⟩
    have hd := of_decide_eq_true (List.mem_filter.mp hn).2
    obtain ⟨j, hj⟩ := (h.fiber_r2_a1 (ix1 i) _).mp hd
    exact ⟨j, by rw [← hj]; rfl⟩
  · rintro ⟨j, rfl⟩
    refine ⟨(⟨2, ![n0, n1]⟩ : Shape).rowMajor (ix2 i j), List.mem_filter.mpr ⟨List.mem_finRange _, decide_eq_true ?_⟩, ?_⟩
    · exact (h.fiber_r2_a1 (ix1 i) _).mpr ⟨j, (Equiv.symm_apply_apply _ _).symm⟩
    · rw [Equiv.symm_apply_apply]; rfl

end Reductions

/-- What the arg-max's body makes of two (value, index) pairs. -/
theorem reducer_eq (a b : EReal × BitVec 32) : reducer_argmax_f32_i32 (F := Ideal) a b
    = (if b.1 < a.1 then a.1 else b.1, if b.1 < a.1 ∨ (a.1 = b.1 ∧ a.2.toInt < b.2.toInt) then a.2 else b.2) := by
  have hs : ∀ (c : Bool) {α : Type} (u v : α), Scalar.select (BitVec.ofBool c) u v = if c = true then u else v := by
    intro c α u v; cases c <;> rfl
  have ho : ∀ c d : Bool, IntOp.ori (BitVec.ofBool c) (BitVec.ofBool d) = BitVec.ofBool (c || d) := by decide
  have ha : ∀ c d : Bool, IntOp.andi (BitVec.ofBool c) (BitVec.ofBool d) = BitVec.ofBool (c && d) := by decide
  unfold reducer_argmax_f32_i32
  simp only [Ideal.cmpf_def, Ideal.cmp, IntOp.cmpi, ho, ha, hs]
  simp [BitVec.slt_iff_toInt_lt]

/-- The pair `p` wins over the pair `q`: a greater value, or an equal one no later. -/
def Wins (p q : EReal × BitVec 32) : Prop := q.1 < p.1 ∨ (q.1 = p.1 ∧ p.2.toInt ≤ q.2.toInt)

/-- The body returns one of its two pairs. -/
theorem reducer_sel (a b : EReal × BitVec 32) :
    reducer_argmax_f32_i32 (F := Ideal) a b = a ∨ reducer_argmax_f32_i32 (F := Ideal) a b = b := by
  obtain ⟨a1, a2⟩ := a
  obtain ⟨b1, b2⟩ := b
  rw [reducer_eq]
  dsimp only
  by_cases h : b1 < a1
  · exact Or.inl (by simp [h])
  · by_cases h' : a1 = b1 ∧ a2.toInt < b2.toInt
    · exact Or.inl (by simp [h, h'])
    · exact Or.inr (by simp [h, h'])

/-- The winner on the left is returned. -/
theorem reducer_left {p a : EReal × BitVec 32} (h : Wins p a) : reducer_argmax_f32_i32 (F := Ideal) p a = p := by
  obtain ⟨p1, p2⟩ := p
  obtain ⟨a1, a2⟩ := a
  rw [reducer_eq]
  rcases h with h | ⟨h, h'⟩
  · simp only at h
    simp [h]
  · simp only at h h'
    subst h
    by_cases hlt : p2.toInt < a2.toInt
    · simp [hlt]
    · have : a2 = p2 := BitVec.eq_of_toInt_eq (by omega)
      simp [this]

/-- The winner on the right is returned. -/
theorem reducer_right {p a : EReal × BitVec 32} (h : Wins p a) : reducer_argmax_f32_i32 (F := Ideal) a p = p := by
  obtain ⟨p1, p2⟩ := p
  obtain ⟨a1, a2⟩ := a
  rw [reducer_eq]
  rcases h with h | ⟨h, h'⟩
  · simp only at h
    simp [h.le.not_gt, h.ne]
  · simp only at h h'
    subst h
    simp [not_lt.mpr h']

/-- The index of a row, at any number and length of rows: the first place of the greatest value. -/
theorem index_row {n0 n1 : Nat} {u : Shape} (h : (⟨2, ![n0, n1]⟩ : Shape).ReducesTo [1] ⟨1, ![n0]⟩) (hu : 0 < u.numel)
    (hn : n1 < 2 ^ 31) (x : FVec Ideal (⟨2, ![n0, n1]⟩ : Shape) .f32) (init : u.Idx → Ideal .f32) (inix : u.Idx → BitVec 32)
    (hi : init (Shape.Idx.first hu) = (⊥ : EReal)) (hx : inix (Shape.Idx.first hu) = 0#32) (i : Fin n0) (k : Fin n1)
    (hk : First (fun k => (x (ix2 i k) : EReal)) k) :
    (Host.argReduce (reducer_argmax_f32_i32 (F := Ideal)) x (iotaInDim (⟨2, ![n0, n1]⟩ : Shape) 32 1) init inix h hu (ix1 i)).2
      = BitVec.ofNat 32 k.val := by
  rw [Ideal.argReduce_eq_reduce2, Host.reduce2_eq_foldl_fiber,
    foldl_eq (reducer_argmax_f32_i32 (F := Ideal)) (x (ix2 i k), BitVec.ofNat 32 k.val) (Wins (x (ix2 i k), BitVec.ofNat 32 k.val)) reducer_sel
      (fun _ => reducer_left) (fun _ => reducer_right)]
  · rw [hi, hx]
    rcases lt_or_eq_of_le (bot_le (a := (x (ix2 i k) : EReal))) with hlt | heq
    · exact Or.inl hlt
    · refine Or.inr ⟨heq, ?_⟩
      have h0 := hk.least ⟨0, lt_of_le_of_lt (Nat.zero_le _) k.isLt⟩
        (le_antisymm (hk.le _) (le_of_eq_of_le heq.symm bot_le))
      have hk0 : k.val = 0 := Nat.le_zero.mp h0
      rw [hk0]
  · intro q hq
    obtain ⟨j, rfl⟩ := (fiber_row h x i q).mp hq
    rcases lt_or_eq_of_le (hk.le j) with hlt | heq
    · exact Or.inl hlt
    · refine Or.inr ⟨heq, ?_⟩
      show (BitVec.ofNat 32 k.val).toInt ≤ (BitVec.ofNat 32 j.val).toInt
      rw [toInt_ofNat (lt_trans k.isLt hn), toInt_ofNat (lt_trans j.isLt hn)]
      exact_mod_cast hk.least j heq
  · exact Or.inr ((fiber_row h x i _).mpr ⟨k, rfl⟩)

/-- One value a row, spread over the rows. -/
def wide (u : FVec Ideal S32 .f32) : FVec Ideal S32x1000000 .f32 :=
  broadcastInDim S32x1000000 ![0, 1] Facts₀.bcast_S32x1_S32x1000000_0_1 (broadcastInDim S32x1 ![0] Facts₀.bcast_S32_S32x1_0 u)

/-- The greatest value of every row, as the reference makes it. -/
def tops (x : FVec Ideal S32x1000000 .f32) : FVec Ideal S32 .f32 :=
  maximumf (broadcastInDim S32 ![] Facts₀.bcast_S_S32 (constant S_ .f32 0xFF800000#32))
    (Host.reduce FloatOps.maximumf x (constant S_ .f32 0xFF800000#32) Facts₀.reducesTo_S32x1000000_S32_d1 Facts₀.h_S_)

/-- The sum of every row, as the reference makes it. -/
def sums (e : FVec Ideal S32x1000000 .f32) : FVec Ideal S32 .f32 :=
  Host.reduceAdd e (constant S_ .f32 0x00000000#32) Facts₀.reducesTo_S32x1000000_S32_d1 Facts₀.h_S_

/-- The spread value. -/
theorem wide_apply (u : FVec Ideal S32 .f32) (i : Fin 32) (k : Fin 1000000) : wide u (ix2 i k) = u (ix1 i) := spread u i k

/-- The greatest value of a row. -/
theorem tops_apply (x : FVec Ideal S32x1000000 .f32) (i : Fin 32) : tops x (ix1 i) = ⨆ k, (x (ix2 i k) : EReal) := by
  have h := max_row (n0 := 32) (n1 := 1000000) Facts₀.reducesTo_S32x1000000_S32_d1 Facts₀.h_S_ x
    (constant (F := Ideal) S_ .f32 0xFF800000#32) ofBits_ninf i
  delta tops
  rw [maximumf_apply, h]
  refine Eq.trans (b := max (FloatOps.ofBits .f32 0xFF800000#32 : Ideal .f32) (⨆ k, x (ix2 i k))) rfl ?_
  rw [ofBits_ninf]
  exact max_eq_right bot_le

/-- The sum of a row. -/
theorem sums_apply (e : FVec Ideal S32x1000000 .f32) (i : Fin 32) : sums e (ix1 i) = ∑ k, (e (ix2 i k) : EReal) :=
  sum_row (n0 := 32) (n1 := 1000000) Facts₀.reducesTo_S32x1000000_S32_d1 Facts₀.h_S_ e
    (constant (F := Ideal) S_ .f32 0x00000000#32) Ideal.ofBits_zero_f32 i

/-- The reference's softmax in these terms. -/
theorem softmax_eq (x : FVec Ideal S32x1000000 .f32) :
    softmax x = Host.divf (Host.exp (subf x (wide (tops x)))) (wide (sums (Host.exp (subf x (wide (tops x)))))) := rfl

/-- The reference's softmax of a row. -/
theorem softmax_apply (x : FVec Ideal S32x1000000 .f32) (i : Fin 32) (k : Fin 1000000) :
    softmax x (ix2 i k) = soft (fun k => (x (ix2 i k) : EReal)) k := by
  have he : ∀ j, Host.exp (F := Ideal) (φ := .f32) (subf x (wide (tops x))) (ix2 i j) = Ideal.exp (x (ix2 i j) - ⨆ k, (x (ix2 i k) : EReal)) := by
    intro j
    rw [← tops_apply x i, ← wide_apply (tops x) i j]
    rfl
  have hd : ∀ e t : FVec Ideal S32x1000000 .f32, Host.divf e t (ix2 i k) = Ideal.div (e (ix2 i k)) (t (ix2 i k)) := fun e t => rfl
  rw [softmax_eq, hd, wide_apply, sums_apply, he, soft]
  exact congrArg _ (Finset.sum_congr rfl fun j _ => he j)

/-- The reference's index, as a function of the row. -/
theorem argmax_eq (r : FVec Ideal S32x1000000 .f32) : argmax r = fun j =>
    (Host.argReduce reducer_argmax_f32_i32 r (iotaInDim S32x1000000 32 1) (constant S_ .f32 0xFF800000#32)
      (constantI S_ 32 0#32) Facts₀.reducesTo_S32x1000000_S32_d1 Facts₀.h_S_ j).2 := rfl

/-- The reference's index of a row: the first place of the greatest value. -/
theorem argmax_apply (r : FVec Ideal S32x1000000 .f32) (i : Fin 32) (k : Fin 1000000) (hk : First (fun k => (r (ix2 i k) : EReal)) k) :
    argmax r (ix1 i) = BitVec.ofNat 32 k.val := by
  have h := index_row (n0 := 32) (n1 := 1000000) Facts₀.reducesTo_S32x1000000_S32_d1 Facts₀.h_S_ (by norm_num) r
    (constant (F := Ideal) S_ .f32 0xFF800000#32) (constantI S_ 32 0#32) ofBits_ninf rfl i k hk
  rw [argmax_eq]
  exact h

end Cert.ReferenceIdeal.Rows
-- ==== Proof.Math.Result.lean ====
/- The kernel's two results over the extended reals are the reference's softmax and arg-max. -/
module

public import proofs.«01_k».proof.Proof.Kernel.Entry
public import proofs.«01_k».proof.Proof.Kernel.Blocks
public import proofs.«01_k».proof.Proof.Math.Rows

@[expose] public section

set_option maxRecDepth 8000

noncomputable section

namespace Cert.KernelIdeal.Result

open Idealize.ShloMosaic Idealize.ShloMosaic.TcCoe Idealize.SL.Sem
open Cert.KernelIdeal Cert.KernelIdeal.Gen Cert.KernelIdeal.Blocks Cert.KernelIdeal.Body Cert.KernelIdeal.Entry Cert.Pick
open Cert.ReferenceIdeal.Run (softmax argmax)
open Cert.ReferenceIdeal.Rows (softmax_apply argmax_apply)

/-- Thirty-two rows of a million laid out in rows of a thousand. -/
theorem tall_apply {α : Type} (x : S32x1000000.Idx → α) (i : Fin 32) (a b : Fin 1000) :
    shapeCast S32000x1000 x shapeCasts_S32x1000000_S32000x1000 (ix2 (row i a) b) = x (ix2 i (at' a b)) := by
  pointwise
  refine congrArg x (congrArg₂ ix2 (Fin.ext ?_) (Fin.ext ?_))
  · show (i.val * 1000 + a.val) / 1000 = i.val
    omega
  · show (i.val * 1000 + a.val) % 1000 * 1000 + b.val = a.val * 1000 + b.val
    omega

/-- And back. -/
theorem wide_apply {α : Type} (x : S32000x1000.Idx → α) (i : Fin 32) (k : Fin 1000000) :
    shapeCast S32x1000000 x shapeCasts_S32000x1000_S32x1000000 (ix2 i k) = x (ix2 (row i (hi k)) (lo k)) := by
  pointwise
  refine congrArg x (congrArg₂ ix2 (Fin.ext ?_) (Fin.ext ?_))
  · rfl
  · rfl

/-- The first lane of every row. -/
theorem lane_apply {α : Type} (x : S32x1x128.Idx → α) (i : Fin 32) :
    shapeCast S32 (extractStridedSlice S32x1x1 ![0, 0, 0] x slices_S32x1x128_S32x1x1_0_0_0) shapeCasts_S32x1x1_S32 (ix1 i)
      = x (ix3 i 0 0) := by
  pointwise

variable (m : (ℓ : Loc nD τ sig) → Buf (Elt Ideal) ℓ)

/-- The logits, as launched. -/
abbrev logits (c : Dev nD) : FVec Ideal S32x1000000 .f32 := m ((c.tc : Thread nD τ).loc main_arg0)

/-- Block `i` of the logits is row `i` of them. -/
theorem flat0 (c : Dev nD) (i : Fin 32) :
    flat (iblk m c 0 (pt i) : S1000x1000.Idx → Ideal .f32) = fun k => logits m c (ix2 i k) := by
  funext k
  refine (iblk0_apply m c i (hi k) (lo k)).trans ?_
  rw [V_main_v0, tall_apply, at_hi_lo]

/-- Block `i` of the noise is row `i` of it. -/
theorem flat1 (c : Dev nD) (i : Fin 32) :
    flat (iblk m c 1 (pt i) : S1000x1000.Idx → Ideal .f32) = fun k => noise m c (ix2 i k) := by
  funext k
  refine (iblk1_apply m c i (hi k) (lo k)).trans ?_
  rw [V_main_v9, tall_apply, at_hi_lo]

/-- The kernel's probabilities are the reference's softmax. -/
theorem probs_eq (c : Dev nD) :
    shapeCast S32x1000000 (Value.reg_main_v10_0 m c) shapeCasts_S32000x1000_S32x1000000 = softmax (logits m c) := by
  funext j
  obtain ⟨i, k, rfl⟩ : ∃ (i : Fin 32) (k : Fin 1000000), j = ix2 i k := ⟨j 0, j 1, eq_ix2 j⟩
  refine (wide_apply (Value.reg_main_v10_0 m c) i k).trans ?_
  refine (probs_apply m c i (hi k) (lo k)).trans ?_
  refine (pay1_flat (iblk m c 0 (pt i)) k).trans ?_
  rw [flat0, softmax_apply]

/-- The scores of a row: the probabilities over the noise. -/
def score (c : Dev nD) (i : Fin 32) (k : Fin 1000000) : EReal :=
  Ideal.div (soft (fun k => (logits m c (ix2 i k) : EReal)) k) (noise m c (ix2 i k))

/-- A quotient of arrays at an index. -/
theorem divf_apply {s : Shape} (p q : FVec Ideal s .f32) (j : s.Idx) :
    (Host.divf p q j : EReal) = Ideal.div (p j) (q j) := rfl

/-- The reference's quotients along a row are the scores of that row. -/
theorem score_eq (c : Dev nD) (i : Fin 32) :
    (fun k => (Host.divf (softmax (logits m c)) (noise m c) (ix2 i k) : EReal)) = score m c i := by
  funext k
  rw [divf_apply, softmax_apply, score]

/-- The kernel's indices are the reference's arg-max of the scores. -/
theorem index_eq (c : Dev nD) :
    shapeCast S32 (extractStridedSlice S32x1x1 ![0, 0, 0] (Value.reg_main_v10_1 m c) slices_S32x1x128_S32x1x1_0_0_0) shapeCasts_S32x1x1_S32
      = argmax (Host.divf (softmax (logits m c)) (noise m c)) := by
  funext j
  obtain ⟨i, rfl⟩ : ∃ i : Fin 32, j = ix1 i := ⟨j 0, eq_ix1 j⟩
  obtain ⟨k, hk⟩ := exists_first (by norm_num) (score m c i)
  have hs : (fun k => Ideal.div (soft (flat (iblk m c 0 (pt i) : S1000x1000.Idx → Ideal .f32)) k) (flat (iblk m c 1 (pt i) : S1000x1000.Idx → Ideal .f32) k))
      = score m c i := by
    funext k; rw [flat0, flat1, score]
  refine Eq.trans ?_ (argmax_apply (Host.divf (softmax (logits m c)) (noise m c)) i k ((score_eq m c i).symm ▸ hk)).symm
  refine (lane_apply (Value.reg_main_v10_1 m c) i).trans ?_
  refine (index_apply m c i 0).trans ?_
  exact pay2_apply _ _ k (hs ▸ hk) _

end Cert.KernelIdeal.Result
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Run
public import proofs.«01_k».proof.Proof.Gen.ReferenceIdeal
public import proofs.«01_k».proof.Proof.Noise.Reference
public import proofs.«01_k».proof.Proof.Math.Result
public import Idealize.ShloMosaic.Adequacy
public import Idealize.ShloMosaic.Init

@[expose] public section

noncomputable section

namespace Cert.Proof

open Idealize.ShloMosaic Idealize.SL.Sem Cert.Kernel

/-- The reference runs, leaves its argument alone and ends with every counter at zero. -/
theorem reference_frame : @Cert.quiescent_ReferenceIdeal Cert.ReferenceIdeal.Gen.facts := fun m g _ =>
  (θ_run Cert.ReferenceIdeal.defs _ _).mono (fun _ h => ⟨fun c => (h.1 c).2.2, h.2⟩)
    (Cert.ReferenceIdeal.Run.run m g fun c =>
      Cert.KernelIdeal.Entry.laid (fun _ => fun _ => default) c)

/-- From equal logits, kernel and reference end with the same probabilities and the same indices. -/
theorem same_results :
    @Cert.algebraic_KernelIdeal_ReferenceIdeal Cert.KernelIdeal.Gen.facts Cert.ReferenceIdeal.Gen.facts := by
  intro m g m' g' _ hm
  refine ⟨fun c => Cert.ReferenceIdeal.Run.softmax (Cert.KernelIdeal.Result.logits m c),
    fun c => Cert.ReferenceIdeal.Run.argmax (Host.divf
      (Cert.ReferenceIdeal.Run.softmax (Cert.KernelIdeal.Result.logits m c)) (Cert.KernelIdeal.Entry.noise m c)), ?_, ?_⟩
  · exact (θ_run Cert.KernelIdeal.defs _ _).mono (fun _ h c =>
      ⟨(h c).1.trans (Cert.KernelIdeal.Result.probs_eq m c), (h c).2.1.trans (Cert.KernelIdeal.Result.index_eq m c),
        (h c).2.2⟩) (Cert.KernelIdeal.Value.run m g)
  · refine (θ_run Cert.ReferenceIdeal.defs _ _).mono (fun _ h c => ?_)
      (Cert.ReferenceIdeal.Run.run m' g' fun c => Cert.KernelIdeal.Entry.laid m c)
    obtain ⟨h0, h1, h2⟩ := h.1 c
    rw [hm c] at h0 h1
    exact ⟨h0, h1, h2⟩

/-- Every claim of the statement. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  same_results⟩

end Cert.Proof

end
